-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S64x1x2048 : Shape := ⟨3, ![64, 1, 2048]⟩
abbrev S2048x32 : Shape := ⟨2, ![2048, 32]⟩
abbrev S32x2048x2048 : Shape := ⟨3, ![32, 2048, 2048]⟩
abbrev S32x2048 : Shape := ⟨2, ![32, 2048]⟩
abbrev S32x1024x2048 : Shape := ⟨3, ![32, 1024, 2048]⟩
abbrev S_ : Shape := ⟨0, ![]⟩

class Facts : Prop where
  bcast_S_S64x1x2048 : S_.BroadcastsInDim S64x1x2048 (![] : Fin 0 → Fin S64x1x2048.rank)
  reducesTo_S64x1x2048_S_d0_1_2 : S64x1x2048.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_

variable [Facts]

def fn {F : FTy → Type} [FloatOps F] (main_arg0 : FVec F S64x1x2048 .f32) (main_arg1 : FVec F S2048x32 .f32) (main_arg2 : FVec F S32x2048x2048 .fp8e4m3) (main_arg3 : FVec F S32x2048 .f32) (main_arg4 : FVec F S32x1024x2048 .fp8e4m3) (main_arg5 : FVec F S32x2048 .f32) : IVec S_ 1 :=
  let main_v0 : FVec F S64x1x2048 .f32 := Host.absf main_arg0
  let main_cst : FVec F S_ .f32 := constant S_ .f32 0x7F800000#32
  let main_v1 : FVec F S64x1x2048 .f32 := broadcastInDim S64x1x2048 ![] bcast_S_S64x1x2048 main_cst
  let main_v2 : IVec S64x1x2048 1 := cmpf .olt main_v0 main_v1
  let main_c : IVec S_ 1 := constantI S_ 1 1#1
  let main_v3 : IVec S_ 1 := (fun x v => Host.reduce IntOp.andi x v reducesTo_S64x1x2048_S_d0_1_2 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  main_v8
-- ==== Kernel.lean ====
abbrev S64x1x2048 : Shape := ⟨3, ![64, 1, 2048]⟩
abbrev S2048x32 : Shape := ⟨2, ![2048, 32]⟩
abbrev S32x2048x2048 : Shape := ⟨3, ![32, 2048, 2048]⟩
abbrev S32x2048 : Shape := ⟨2, ![32, 2048]⟩
abbrev S32x1024x2048 : Shape := ⟨3, ![32, 1024, 2048]⟩
abbrev S64x2048 : Shape := ⟨2, ![64, 2048]⟩
abbrev S32x1x2048 : Shape := ⟨3, ![32, 1, 2048]⟩
abbrev S1x2048x2048 : Shape := ⟨3, ![1, 2048, 2048]⟩
abbrev S1x1x2048 : Shape := ⟨3, ![1, 1, 2048]⟩
abbrev S1x1024x2048 : Shape := ⟨3, ![1, 1024, 2048]⟩
abbrev S64x1 : Shape := ⟨2, ![64, 1]⟩
abbrev S64x32 : Shape := ⟨2, ![64, 32]⟩
abbrev S64 : Shape := ⟨1, ![64]⟩
abbrev S2048x2048 : Shape := ⟨2, ![2048, 2048]⟩
abbrev S1x2048 : Shape := ⟨2, ![1, 2048]⟩
abbrev S64x1024 : Shape := ⟨2, ![64, 1024]⟩
abbrev S1024x2048 : Shape := ⟨2, ![1024, 2048]⟩

abbrev nBuf : Space → Nat
  | .hbm => 10
  | .vmem => 14
  | .smem => 0
  | _ => 0

abbrev bufTy : (tb : Table) → Fin (tcTables nBuf tb) → BufTy
  | .hbm, ⟨0, _⟩ => ⟨S64x1x2048, .f32⟩
  | .hbm, ⟨1, _⟩ => ⟨S2048x32, .f32⟩
  | .hbm, ⟨2, _⟩ => ⟨S32x2048x2048, .fp8e4m3⟩
  | .hbm, ⟨3, _⟩ => ⟨S32x2048, .f32⟩
  | .hbm, ⟨4, _⟩ => ⟨S32x1024x2048, .fp8e4m3⟩
  | .hbm, ⟨5, _⟩ => ⟨S32x2048, .f32⟩
  | .hbm, ⟨6, _⟩ => ⟨S64x2048, .f32⟩
  | .hbm, ⟨7, _⟩ => ⟨S32x1x2048, .f32⟩
  | .hbm, ⟨8, _⟩ => ⟨S32x1x2048, .f32⟩
  | .hbm, ⟨9, _⟩ => ⟨S64x2048, .f32⟩
  | .local _ .vmem, ⟨0, _⟩ => ⟨S64x2048, .f32⟩
  | .local _ .vmem, ⟨1, _⟩ => ⟨S2048x32, .f32⟩
  | .local _ .vmem, ⟨2, _⟩ => ⟨S1x2048x2048, .fp8e4m3⟩
  | .local _ .vmem, ⟨3, _⟩ => ⟨S1x2048x2048, .fp8e4m3⟩
  | .local _ .vmem, ⟨4, _⟩ => ⟨S1x1x2048, .f32⟩
  | .local _ .vmem, ⟨5, _⟩ => ⟨S1x1x2048, .f32⟩
  | .local _ .vmem, ⟨6, _⟩ => ⟨S1x1024x2048, .fp8e4m3⟩
  | .local _ .vmem, ⟨7, _⟩ => ⟨S1x1024x2048, .fp8e4m3⟩
  | .local _ .vmem, ⟨8, _⟩ => ⟨S1x1x2048, .f32⟩
  | .local _ .vmem, ⟨9, _⟩ => ⟨S1x1x2048, .f32⟩
  | .local _ .vmem, ⟨10, _⟩ => ⟨S64x2048, .f32⟩
  | .local _ .vmem, ⟨11, _⟩ => ⟨S64x2048, .fp8e4m3⟩
  | .local _ .vmem, ⟨12, _⟩ => ⟨S64x1, .f32⟩
  | .local _ .vmem, ⟨13, _⟩ => ⟨S64x32, .f32⟩
  | _, _ => ⟨S64x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1x2048 : Shape := ⟨3, ![64, 1, 2048]⟩
abbrev S2048x32 : Shape := ⟨2, ![2048, 32]⟩
abbrev S32x2048x2048 : Shape := ⟨3, ![32, 2048, 2048]⟩
abbrev S32x2048 : Shape := ⟨2, ![32, 2048]⟩
abbrev S32x1024x2048 : Shape := ⟨3, ![32, 1024, 2048]⟩
abbrev S64x2048 : Shape := ⟨2, ![64, 2048]⟩
abbrev S64x32 : Shape := ⟨2, ![64, 32]⟩
abbrev S64x4 : Shape := ⟨2, ![64, 4]⟩
abbrev S_ : Shape := ⟨0, ![]⟩
abbrev S64 : Shape := ⟨1, ![64]⟩
abbrev S64x1 : Shape := ⟨2, ![64, 1]⟩
abbrev S32x64x2048 : Shape := ⟨3, ![32, 64, 2048]⟩
abbrev S1x64x2048 : Shape := ⟨3, ![1, 64, 2048]⟩
abbrev S1x64x1 : Shape := ⟨3, ![1, 64, 1]⟩
abbrev S32x1x2048 : Shape := ⟨3, ![32, 1, 2048]⟩
abbrev S32x64x1024 : Shape := ⟨3, ![32, 64, 1024]⟩
abbrev S32x64 : Shape := ⟨2, ![32, 64]⟩
abbrev S32x64x1 : Shape := ⟨3, ![32, 64, 1]⟩
abbrev S64x4x1 : Shape := ⟨3, ![64, 4, 1]⟩
abbrev S64x4x2 : Shape := ⟨3, ![64, 4, 2]⟩
abbrev S64x4x2048 : Shape := ⟨3, ![64, 4, 2048]⟩

abbrev nBuf : Space → Nat
  | .hbm => 51
  | .vmem => 6
  | .smem => 0
  | _ => 0

abbrev bufTy : (tb : Table) → Fin (tcTables nBuf tb) → BufTy
  | .hbm, ⟨0, _⟩ => ⟨S64x1x2048, .f32⟩
  | .hbm, ⟨1, _⟩ => ⟨S2048x32, .f32⟩
  | .hbm, ⟨2, _⟩ => ⟨S32x2048x2048, .fp8e4m3⟩
  | .hbm, ⟨3, _⟩ => ⟨S32x2048, .f32⟩
  | .hbm, ⟨4, _⟩ => ⟨S32x1024x2048, .fp8e4m3⟩
  | .hbm, ⟨5, _⟩ => ⟨S32x2048, .f32⟩
  | .hbm, ⟨6, _⟩ => ⟨S64x2048, .f32⟩
  | .hbm, ⟨7, _⟩ => ⟨S64x32, .f32⟩
  | .hbm, ⟨8, _⟩ => ⟨S64x4, .f32⟩
  | .hbm, ⟨9, _⟩ => ⟨S64x4, .i32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x4, .f32⟩
  | .hbm, ⟨17, _⟩ => ⟨S64x4, .f32⟩
  | .hbm, ⟨18, _⟩ => ⟨S64x4, .f32⟩
  | .hbm, ⟨19, _⟩ => ⟨S_, .f32⟩
  | .hbm, ⟨20, _⟩ => ⟨S64, .f32⟩
  | .hbm, ⟨21, _⟩ => ⟨S64x1, .f32⟩
  | .hbm, ⟨22, _⟩ => ⟨S64x4, .f32⟩
  | .hbm, ⟨23, _⟩ => ⟨S64x4, .f32⟩
  | .hbm, ⟨24, _⟩ => ⟨S32x64x2048, .f32⟩
  | .hbm, ⟨25, _⟩ => ⟨S64, .i32⟩
  | .hbm, ⟨26, _⟩ => ⟨S64x1, .i32⟩
  | .hbm, ⟨27, _⟩ => ⟨S_, .i32⟩
  | .hbm, ⟨28, _⟩ => ⟨S64x4, .i32⟩
  | .hbm, ⟨29, _⟩ => ⟨S64x4, .i1⟩
  | .hbm, ⟨30, _⟩ => ⟨S_, .i32⟩
  | .hbm, ⟨31, _⟩ => ⟨S64x4, .i32⟩
  | .hbm, ⟨32, _⟩ => ⟨S64x4, .i32⟩
  | .hbm, ⟨33, _⟩ => ⟨S64x4, .i32⟩
  | .hbm, ⟨34, _⟩ => ⟨S_, .i32⟩
  | .hbm, ⟨35, _⟩ => ⟨S64x1, .i32⟩
  | .hbm, ⟨36, _⟩ => ⟨S64x1, .i1⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S64x1, .i32⟩
  | .hbm, ⟨41, _⟩ => ⟨S64x4, .i32⟩
  | .hbm, ⟨42, _⟩ => ⟨S64x4x1, .i32⟩
  | .hbm, ⟨43, _⟩ => ⟨S64x4x1, .i32⟩
  | .hbm, ⟨44, _⟩ => ⟨S64x4x2, .i32⟩
  | .hbm, ⟨45, _⟩ => ⟨S64x4x2048, .f32⟩
  | .hbm, ⟨46, _⟩ => ⟨S64x4x1, .f32⟩
  | .hbm, ⟨47, _⟩ => ⟨S64x4x2048, .f32⟩
  | .hbm, ⟨48, _⟩ => ⟨S64x4x2048, .f32⟩
  | .hbm, ⟨49, _⟩ => ⟨S_, .f32⟩
  | .hbm, ⟨50, _⟩ => ⟨S64x2048, .f32⟩
  | .local _ .vmem, ⟨0, _⟩ => ⟨S64x2048, .f32⟩
  | .local _ .vmem, ⟨1, _⟩ => ⟨S32x2048x2048, .fp8e4m3⟩
  | .local _ .vmem, ⟨2, _⟩ => ⟨S32x2048, .f32⟩
  | .local _ .vmem, ⟨3, _⟩ => ⟨S32x1024x2048, .fp8e4m3⟩
  | .local _ .vmem, ⟨4, _⟩ => ⟨S32x2048, .f32⟩
  | .local _ .vmem, ⟨5, _⟩ => ⟨S32x64x2048, .f32⟩
  | _, _ => ⟨S64x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/-
  THE QUANTISER'S POWER OF TWO, one row.

  A row with greatest magnitude `a` is quantised with the scale `2^e`, where `e` is the exponent of `a / 448`. The kernel
  finds `e` on words: the biased exponent by a binary search over the powers of two, the power by a shift into the exponent
  field. The reference finds it on reals: `⌊log₂ (a / 448)⌋ + 1`. This module states both as functions of `a` and proves
  that they give the same scale and the same inverse scale, for every extended real `a`.
-/
module

public import Idealize.ShloMosaic.Lib.IdealHost
public import Idealize.ShloMosaic.Lib.Pointwise

@[expose] public section

noncomputable section

namespace Cert.Exponent

open Idealize.ShloMosaic

/-! ## The reference's functions -/

/-- `ldexp (1.0, e)`: `2^e`, with `0` below the exponent range and infinity above it. -/
def ldexpOne (e : EReal) : EReal :=
  if e < Ideal.ofBits .f32 0xC2FC0000#32 then 0 else if Ideal.ofBits .f32 0x42FE0000#32 < e then ⊤ else Ideal.exp2 e

/-- The exponent of a row whose greatest magnitude is `a`: `⌊log₂ (a / 448)⌋ + 1`, and `0` for a zero, tiny or infinite row. -/
def exponent (a : EReal) : EReal :=
  if a = 0 then 0
  else if a * Ideal.ofBits .f32 0x3B124925#32 < Ideal.ofBits .f32 0x00800000#32 ∨ a * Ideal.ofBits .f32 0x3B124925#32 = ⊤ then 0
  else Ideal.liftRound Int.floor
    (Ideal.div (Ideal.log (a * Ideal.ofBits .f32 0x3B124925#32)) (Ideal.log (Ideal.ofBits .f32 0x40000000#32))) + 1

/-- The scale of a row with greatest magnitude `a`. -/
def scale (a : EReal) : EReal := ldexpOne (exponent a)

/-- The inverse scale of a row with greatest magnitude `a`. -/
def invScale (a : EReal) : EReal := ldexpOne (0 - exponent a)

/-! ## The kernel's functions, on words -/

/-- `2^n` built in the exponent field of a word. -/
def pow2 (n : BitVec 32) : EReal :=
  Ideal.ofBits .f32 (Scalar.select (IntOp.cmpi .sle (IntOp.addi n 127#32) 0#32) 0#32
    (Scalar.select (IntOp.cmpi .sge (IntOp.addi n 127#32) 255#32) 2139095040#32
      (IntOp.shli .vector (IntOp.addi n 127#32) 23#32)))

/-- One step of the binary search: `b` is added to the biased exponent `k` when the power there is at most `r`. -/
def probe (r : EReal) (k b : BitVec 32) : BitVec 32 :=
  Scalar.select (Ideal.cmp .oge r (pow2 (IntOp.subi (IntOp.addi k b) 127#32))) (IntOp.addi k b) k

/-- The biased exponent of `r`, by binary search. -/
def biased (r : EReal) : BitVec 32 :=
  probe r (probe r (probe r (probe r (probe r (probe r (probe r (probe r 0#32 128#32) 64#32) 32#32) 16#32) 8#32) 4#32) 2#32) 1#32

/-- The kernel's exponent of a row with greatest magnitude `a`. -/
def exponentWord (a : EReal) : BitVec 32 :=
  Scalar.select
    (IntOp.ori (IntOp.ori (IntOp.cmpi .eq (biased (a * Ideal.ofBits .f32 0x3B124925#32)) 0#32)
        (IntOp.cmpi .eq (biased (a * Ideal.ofBits .f32 0x3B124925#32)) 255#32))
      (Ideal.cmp .oeq a 0))
    0#32 (IntOp.subi (biased (a * Ideal.ofBits .f32 0x3B124925#32)) 126#32)

/-! ## The binary search on naturals -/

/-- The power of two with biased exponent `k`. -/
def val (k : ℕ) : EReal := if k = 0 then 0 else if k < 255 then (((2 : ℝ) ^ ((k : ℤ) - 127) : ℝ) : EReal) else ⊤

/-- A word with exponent field `k` and nothing else: its three fields. -/
theorem fields (k : Fin 256) :
    ((BitVec.ofNat 32 k.val <<< 23).extractLsb' 31 1 == 1#1) = false
      ∧ ((BitVec.ofNat 32 k.val <<< 23).extractLsb' 23 8).toNat = k.val
      ∧ ((BitVec.ofNat 32 k.val <<< 23).extractLsb' 0 23).toNat = 0 := by
  revert k; decide +kernel

/-- The pattern with sign zero, exponent field `k` and significand zero, read as a number. -/
theorem ieee_field (w : BitVec 32) (k : ℕ) (e1 : (w.extractLsb' 31 1 == 1#1) = false) (e2 : (w.extractLsb' 23 8).toNat = k)
    (e3 : (w.extractLsb' 0 23).toNat = 0) (h1 : 1 ≤ k) (h2 : k < 255) :
    Ideal.ieee 8 23 w = (((2 : ℝ) ^ ((k : ℤ) - 127) : ℝ) : EReal) := by
  unfold Ideal.ieee
  simp only [Nat.reduceAdd, e1, e2, e3]
  rw [if_neg (by omega), if_neg (by omega)]
  congr 1
  have : ((k : ℤ) - (2 ^ (8 - 1) - 1) - (23 : ℕ) : ℤ) = ((k : ℤ) - 127) + (-23) := by norm_num; ring
  rw [this, zpow_add₀ (by norm_num)]
  norm_num
  ring

/-- The word with exponent field `k` denotes `2^(k - 127)`. -/
theorem ofBits_field (k : ℕ) (h1 : 1 ≤ k) (h2 : k < 255) :
    Ideal.ofBits .f32 (BitVec.ofNat 32 k <<< 23) = (((2 : ℝ) ^ ((k : ℤ) - 127) : ℝ) : EReal) :=
  have h := fields ⟨k, by omega⟩
  ieee_field _ k h.1 h.2.1 h.2.2 h1 h2

/-- The word with the greatest exponent field denotes infinity. -/
theorem ofBits_inf : Ideal.ofBits .f32 2139095040#32 = ⊤ := by
  simp [Ideal.ofBits, Ideal.ieee]

/-- The kernel's power at the signed exponent `z`, whose biased form is `z + 127`. -/
theorem pow2_eq (n : BitVec 32) (k : ℤ) (hk : (IntOp.addi n 127#32).toInt = k) (h0 : -1000 ≤ k) (h1 : k ≤ 1000) :
    pow2 n = val k.toNat := by
  unfold pow2 IntOp.cmpi IntOp.shli Scalar.select
  generalize IntOp.addi n 127#32 = w at hk
  have z0 : (0#32 : BitVec 32).toInt = 0 := rfl
  have z255 : (255#32 : BitVec 32).toInt = 255 := rfl
  simp only [BitVec.sle, hk, z0, z255]
  by_cases a : k ≤ 0
  · have : k.toNat = 0 := by omega
    simp [a, val, this]
  · by_cases b : 255 ≤ k
    · have : ¬ k.toNat < 255 := by omega
      have h' : ¬ k.toNat = 0 := by omega
      simp [a, b, val, this, h', ofBits_inf]
    · have hw : w = BitVec.ofNat 32 k.toNat := by
        rw [← BitVec.ofInt_toInt (x := w), hk, ← BitVec.ofInt_natCast, Int.toNat_of_nonneg (by omega)]
      have := ofBits_field k.toNat (by omega) (by omega)
      have h' : ¬ k.toNat = 0 := by omega
      have h'' : k.toNat < 255 := by omega
      have c : (23 : ℕ) % 2 ^ FTy.f32.bits < FTy.f32.bits := by decide
      simp only [a, b, val, h', h'', hw]
      simpa [c] using this

/-- One step of the search on naturals. -/
def step (r : EReal) (k b : ℕ) : ℕ := if val (k + b) ≤ r then k + b else k

theorem probe_eq (r : EReal) (k b : ℕ) (h : k + b < 256) :
    probe r (BitVec.ofNat 32 k) (BitVec.ofNat 32 b) = BitVec.ofNat 32 (step r k b) := by
  have e : pow2 (IntOp.subi (IntOp.addi (BitVec.ofNat 32 k) (BitVec.ofNat 32 b)) 127#32) = val (k + b) := by
    rw [pow2_eq _ ((k + b : ℕ) : ℤ) _ (by omega) (by omega), Int.toNat_natCast]
    unfold IntOp.addi IntOp.subi
    rw [BitVec.sub_add_cancel, ← BitVec.ofNat_add, BitVec.toInt_ofNat']
    exact Int.bmod_eq_of_le (by omega) (by omega)
  unfold probe step
  rw [e]
  unfold Ideal.cmp Scalar.select IntOp.addi
  by_cases c : val (k + b) ≤ r
  · simp [c, BitVec.ofNat_add]
  · simp [c]

theorem val_zero : val 0 = 0 := rfl

theorem val_mid (k : ℕ) (h1 : 1 ≤ k) (h2 : k < 255) : val k = (((2 : ℝ) ^ ((k : ℤ) - 127) : ℝ) : EReal) := by
  unfold val; rw [if_neg (by omega), if_pos h2]

theorem val_top (k : ℕ) (h : 255 ≤ k) : val k = ⊤ := by
  unfold val; rw [if_neg (by omega), if_neg (by omega)]

/-- The powers increase with the biased exponent. -/
theorem val_mono : Monotone val := by
  intro i j hij
  by_cases hj : 255 ≤ j
  · rw [val_top j hj]; exact le_top
  by_cases hi : i = 0
  · rw [hi, val_zero]
    by_cases j0 : j = 0
    · rw [j0, val_zero]
    · rw [val_mid j (by omega) (by omega)]; exact EReal.coe_nonneg.mpr (by positivity)
  · rw [val_mid i (by omega) (by omega), val_mid j (by omega) (by omega)]
    exact EReal.coe_le_coe_iff.mpr (zpow_le_zpow_right₀ (by norm_num) (by omega))

/-- What the search holds with `2 b` candidates left. -/
def Inv (r : EReal) (k w : ℕ) : Prop := k + w ≤ 256 ∧ (k = 0 ∨ val k ≤ r) ∧ ∀ j, k + w ≤ j → j ≤ 255 → ¬ val j ≤ r

theorem step_inv (r : EReal) (k b : ℕ) (h : Inv r k (b + b)) : Inv r (step r k b) b := by
  obtain ⟨h1, h2, h3⟩ := h
  unfold step
  split_ifs with c
  · exact ⟨by omega, .inr c, fun j hj => h3 j (by omega)⟩
  · exact ⟨by omega, h2, fun j hj _ hv => c ((val_mono hj).trans hv)⟩

/-- The search finds the greatest biased exponent whose power is at most `r`. -/
theorem biased_spec (r : EReal) : ∃ k, biased r = BitVec.ofNat 32 k ∧ Inv r k 1 := by
  have i0 : Inv r 0 (128 + 128) := ⟨by omega, .inl rfl, fun j _ _ => by omega⟩
  have i1 := step_inv r _ 128 i0
  have i2 := step_inv r _ 64 i1
  have i3 := step_inv r _ 32 i2
  have i4 := step_inv r _ 16 i3
  have i5 := step_inv r _ 8 i4
  have i6 := step_inv r _ 4 i5
  have i7 := step_inv r _ 2 i6
  have i8 := step_inv r _ 1 i7
  refine ⟨_, ?_, i8⟩
  unfold biased
  rw [probe_eq r 0 128 (by omega), probe_eq r _ 64 (by have := i1.1; omega), probe_eq r _ 32 (by have := i2.1; omega),
    probe_eq r _ 16 (by have := i3.1; omega), probe_eq r _ 8 (by have := i4.1; omega), probe_eq r _ 4 (by have := i5.1; omega),
    probe_eq r _ 2 (by have := i6.1; omega), probe_eq r _ 1 (by have := i7.1; omega)]

/-! ## The reference's constants -/

theorem ofBits_min : Ideal.ofBits .f32 0x00800000#32 = val 1 := by
  have := ofBits_field 1 (by omega) (by omega)
  simpa [val] using this

theorem ofBits_two : Ideal.ofBits .f32 0x40000000#32 = ((2 : ℝ) : EReal) := by
  have := ofBits_field 128 (by omega) (by omega)
  norm_num at this
  exact this

theorem ofBits_127 : Ideal.ofBits .f32 0x42FE0000#32 = ((127 : ℝ) : EReal) := by
  simp [Ideal.ofBits, Ideal.ieee, -EReal.coe_mul]; norm_num

theorem ofBits_neg126 : Ideal.ofBits .f32 0xC2FC0000#32 = ((-126 : ℝ) : EReal) := by
  simp [Ideal.ofBits, Ideal.ieee, -EReal.coe_mul, -EReal.coe_neg]; norm_num

/-- `ldexpOne` at an integer is the power the kernel builds. -/
theorem ldexpOne_int (z : ℤ) : ldexpOne ((z : ℝ) : EReal) = val (z + 127).toNat := by
  unfold ldexpOne
  rw [ofBits_127, ofBits_neg126]
  by_cases a : z < -126
  · have h : (z + 127).toNat = 0 := by omega
    have : ((z : ℝ) : EReal) < ((-126 : ℝ) : EReal) := EReal.coe_lt_coe_iff.mpr (by exact_mod_cast a)
    rw [if_pos this, h, val_zero]
  · have : ¬ ((z : ℝ) : EReal) < ((-126 : ℝ) : EReal) := fun h => a (by exact_mod_cast EReal.coe_lt_coe_iff.mp h)
    rw [if_neg this]
    by_cases b : 127 < z
    · have : ((127 : ℝ) : EReal) < ((z : ℝ) : EReal) := EReal.coe_lt_coe_iff.mpr (by exact_mod_cast b)
      rw [if_pos this, val_top _ (by omega)]
    · have : ¬ ((127 : ℝ) : EReal) < ((z : ℝ) : EReal) := fun h => b (by exact_mod_cast EReal.coe_lt_coe_iff.mp h)
      rw [if_neg this, val_mid _ (by omega) (by omega), Ideal.exp2_coe]
      congr 1
      have : (((z + 127).toNat : ℕ) : ℤ) - 127 = z := by omega
      rw [this]
      exact Real.rpow_intCast 2 z

/-- The integer part of the logarithm to base two, by the powers around the number. -/
theorem floor_log (x : ℝ) (z : ℤ) (h1 : (2 : ℝ) ^ z ≤ x) (h2 : x < (2 : ℝ) ^ (z + 1)) : ⌊Real.log x / Real.log 2⌋ = z := by
  have hx : 0 < x := lt_of_lt_of_le (by positivity) h1
  have hl : 0 < Real.log 2 := Real.log_pos (by norm_num)
  rw [Int.floor_eq_iff]
  constructor
  · rw [le_div_iff₀ hl, ← Real.log_zpow]
    exact Real.log_le_log (by positivity) h1
  · rw [div_lt_iff₀ hl]
    have : ((z : ℝ) + 1) * Real.log 2 = Real.log ((2 : ℝ) ^ (z + 1)) := by rw [Real.log_zpow]; push_cast; ring
    rw [this]
    exact Real.log_lt_log hx h2

/-- The reference's logarithm expression at a real number of at least `2^z`. -/
theorem log_expr (x : ℝ) (hx : 0 < x) :
    Ideal.liftRound Int.floor (Ideal.div (Ideal.log (x : EReal)) (Ideal.log (Ideal.ofBits .f32 0x40000000#32))) + 1
      = (((⌊Real.log x / Real.log 2⌋ + 1 : ℤ) : ℝ) : EReal) := by
  have hl : Real.log 2 ≠ 0 := (Real.log_pos (by norm_num)).ne'
  rw [ofBits_two, Ideal.log_coe, Ideal.log_coe, if_neg (not_le.mpr hx), if_neg (by norm_num)]
  unfold Ideal.div
  rw [if_neg (by exact_mod_cast hl), ← EReal.coe_inv, ← EReal.coe_mul, ← div_eq_mul_inv]
  show (((⌊Real.log x / Real.log 2⌋ : ℤ) : ℝ) : EReal) + 1 = _
  push_cast
  rfl

/-- A word of a small integer, read signed. -/
theorem toInt_small (k : ℕ) (h : k < 256) : (BitVec.ofNat 32 k).toInt = k := by
  rw [BitVec.toInt_ofNat']; exact Int.bmod_eq_of_le (by omega) (by omega)

/-- THE TWO EXPONENTS AGREE as far as the scales show: there is an integer whose word the kernel holds, and at which the
    reference's exponent gives the same powers both ways. -/
theorem exponent_agree (a : EReal) : ∃ z : ℤ, (exponentWord a).toInt = z ∧ -126 ≤ z ∧ z ≤ 128
    ∧ scale a = val (z + 127).toNat ∧ invScale a = val (-z + 127).toNat := by
  obtain ⟨k, hk, i1, i2, i3⟩ := biased_spec (a * Ideal.ofBits .f32 0x3B124925#32)
  unfold scale invScale exponentWord exponent
  rw [hk, ofBits_min]
  generalize a * Ideal.ofBits .f32 0x3B124925#32 = r at *
  have zero : ∀ P : Prop, (∃ z : ℤ, (0#32 : BitVec 32).toInt = z ∧ -126 ≤ z ∧ z ≤ 128
    ∧ ldexpOne 0 = val (z + 127).toNat ∧ ldexpOne (0 - 0) = val (-z + 127).toNat) := fun _ =>
    ⟨0, rfl, by omega, by omega, by simpa using ldexpOne_int 0, by simpa using ldexpOne_int 0⟩
  have lit : ∀ i : Fin 256, BitVec.ofNat 32 i.val = 0#32 → i.val = 0 := by decide +kernel
  have lit' : ∀ i : Fin 256, BitVec.ofNat 32 i.val = 255#32 → i.val = 255 := by decide +kernel
  have o1 : ∀ x : BitVec 1, x ||| 1#1 = 1#1 := by decide
  have o2 : ∀ x : BitVec 1, 1#1 ||| x = 1#1 := by decide
  by_cases ha : a = 0
  · simp only [ha, if_true]
    simpa [Ideal.cmp, Scalar.select, IntOp.ori, IntOp.cmpi, o1, o2] using zero True
  rw [if_neg ha]
  by_cases k0 : k = 0
  · have : r < val 1 := not_le.mp (i3 1 (by omega) (by omega))
    rw [if_pos (.inl this)]
    simpa [Ideal.cmp, Scalar.select, IntOp.ori, IntOp.cmpi, k0, o1, o2] using zero True
  have hr : val k ≤ r := by tauto
  by_cases k255 : k = 255
  · have : r = ⊤ := by simpa [val, k255] using hr
    rw [if_pos (.inr this)]
    simpa [Ideal.cmp, Scalar.select, IntOp.ori, IntOp.cmpi, k255, o1, o2] using zero True
  have hr255 : ¬ val 255 ≤ r := i3 255 (by omega) (by omega)
  have hv : val 255 = ⊤ := by simp [val]
  have hvk : val k = (((2 : ℝ) ^ ((k : ℤ) - 127) : ℝ) : EReal) := by
    unfold val; rw [if_neg k0, if_pos (by omega)]
  rw [hv, top_le_iff] at hr255
  rw [if_neg (by rw [not_or]; exact ⟨not_lt.mpr ((val_mono (by omega)).trans hr), hr255⟩)]
  have hw : (Scalar.select
      (IntOp.ori (IntOp.ori (IntOp.cmpi .eq (BitVec.ofNat 32 k) 0#32) (IntOp.cmpi .eq (BitVec.ofNat 32 k) 255#32)) (Ideal.cmp .oeq a 0))
      0#32 (IntOp.subi (BitVec.ofNat 32 k) 126#32)).toInt = (k : ℤ) - 126 := by
    have n0 : (BitVec.ofNat 32 k == 0#32) = false := by
      rw [beq_eq_false_iff_ne]; intro h
      exact k0 (lit ⟨k, by omega⟩ h)
    have n1 : (BitVec.ofNat 32 k == 255#32) = false := by
      rw [beq_eq_false_iff_ne]; intro h
      exact k255 (lit' ⟨k, by omega⟩ h)
    have n2 : decide (a = 0) = false := by simp [ha]
    simp only [IntOp.cmpi, Ideal.cmp, n0, n1, n2, IntOp.ori, Scalar.select, IntOp.subi]
    have n3 : ¬ (BitVec.ofBool false ||| BitVec.ofBool false ||| BitVec.ofBool false = 1) := by decide
    rw [if_neg n3, BitVec.toInt_sub, toInt_small k (by omega), show (126#32 : BitVec 32).toInt = 126 from rfl]
    exact Int.bmod_eq_of_le (by norm_num; omega) (by norm_num; omega)
  have hrpos : (0 : ℝ) < (2 : ℝ) ^ ((k : ℤ) - 127) := by positivity
  induction r using EReal.rec with
  | bot => rw [hvk] at hr; exact absurd hr (by simp)
  | top => exact absurd rfl hr255
  | coe x =>
    rw [hvk, EReal.coe_le_coe_iff] at hr
    have hx : 0 < x := lt_of_lt_of_le hrpos hr
    rw [log_expr x hx]
    have neg : (0 : EReal) - (((⌊Real.log x / Real.log 2⌋ + 1 : ℤ) : ℝ) : EReal)
        = (((-(⌊Real.log x / Real.log 2⌋ + 1) : ℤ) : ℝ) : EReal) := by
      rw [zero_sub, ← EReal.coe_neg]; push_cast; rfl
    rw [neg, ldexpOne_int, ldexpOne_int]
    refine ⟨(k : ℤ) - 126, hw, by omega, by omega, ?_⟩
    by_cases k254 : k = 254
    · have lo : (127 : ℤ) ≤ ⌊Real.log x / Real.log 2⌋ := by
        rw [Int.le_floor, le_div_iff₀ (Real.log_pos (by norm_num)), ← Real.log_zpow]
        refine Real.log_le_log (by positivity) (le_trans (le_of_eq ?_) hr)
        rw [k254]; norm_num
      have big : ∀ j : ℕ, 255 ≤ j → val j = ⊤ := fun j hj => by
        unfold val; rw [if_neg (by omega), if_neg (by omega)]
      subst k254
      constructor
      · rw [big _ (by omega), big _ (by norm_num)]
      · have e1 : (-(⌊Real.log x / Real.log 2⌋ + 1) + 127).toNat = 0 := by omega
        rw [e1]; rfl
    · have hi : x < (2 : ℝ) ^ ((k : ℤ) - 127 + 1) := by
        have := i3 (k + 1) (by omega) (by omega)
        unfold val at this
        rw [if_neg (by omega), if_pos (by omega), EReal.coe_le_coe_iff, not_le] at this
        refine lt_of_lt_of_eq this ?_
        congr 1; push_cast; ring
      rw [floor_log x ((k : ℤ) - 127) hr hi]
      constructor <;> (congr 2; ring)

/-- The kernel's scale is the reference's. -/
theorem pow2_exponentWord (a : EReal) : pow2 (exponentWord a) = scale a := by
  obtain ⟨z, hz, h1, h2, h3, _⟩ := exponent_agree a
  rw [h3, pow2_eq _ (z + 127) _ (by omega) (by omega)]
  unfold IntOp.addi
  rw [BitVec.toInt_add, hz, show (127#32 : BitVec 32).toInt = 127 from rfl]
  exact Int.bmod_eq_of_le (by norm_num; omega) (by norm_num; omega)

/-- The kernel's inverse scale is the reference's. -/
theorem pow2_neg_exponentWord (a : EReal) : pow2 (IntOp.subi 0#32 (exponentWord a)) = invScale a := by
  obtain ⟨z, hz, h1, h2, _, h4⟩ := exponent_agree a
  rw [h4, pow2_eq _ (-z + 127) _ (by omega) (by omega)]
  unfold IntOp.addi IntOp.subi
  rw [BitVec.toInt_add, BitVec.toInt_sub, hz]
  have : ((0#32 : BitVec 32).toInt - z).bmod (2 ^ 32) = -z := by
    rw [show (0#32 : BitVec 32).toInt = 0 from rfl, zero_sub]
    exact Int.bmod_eq_of_le (by norm_num; omega) (by norm_num; omega)
  rw [this, show (127#32 : BitVec 32).toInt = 127 from rfl]
  exact Int.bmod_eq_of_le (by norm_num; omega) (by norm_num; omega)

end Cert.Exponent
-- ==== Proof.KernelSearch.lean ====
/-
  THE KERNEL'S EXPONENT, read at a row.

  The kernel finds the exponents of all rows at once. Its binary search is unrolled over several payloads; here each stretch
  is folded back into steps of one vector operation, and the whole is read at a row as the scalar search of `Exponent`.
-/
module

public import proofs.«01_k».proof.Proof.Gen.KernelIdeal.Skeleton
public import proofs.«01_k».proof.Proof.Exponent

@[expose] public section

set_option maxRecDepth 16384

noncomputable section

namespace Cert.KernelSearch

open Cert.KernelIdeal Cert.KernelIdeal.Gen Idealize.ShloMosaic

variable {s : Shape}

/-- The powers of two at a vector of exponents. -/
def pow2V (n : IVec s 32) : FVec Ideal s .f32 :=
  bitcastToFloat .f32 (select (cmpi .sle (addi n (broadcast s 127#32)) (broadcast s 0#32)) (broadcast s 0#32)
    (select (cmpi .sge (addi n (broadcast s 127#32)) (broadcast s 255#32)) (broadcast s 2139095040#32)
      (shli (addi n (broadcast s 127#32)) (broadcast s 23#32))))

/-- One step of the search on a vector of rows. -/
def probeV (r : FVec Ideal s .f32) (k : IVec s 32) (b : BitVec 32) : IVec s 32 :=
  select (cmpf .oge r (pow2V (subi (addi k (broadcast s b)) (broadcast s 127#32)))) (addi k (broadcast s b)) k

/-- The biased exponents of a vector of rows. -/
def biasedV (r : FVec Ideal s .f32) : IVec s 32 :=
  probeV r (probeV r (probeV r (probeV r (probeV r (probeV r (probeV r (probeV r (broadcast s 0#32) 128#32) 64#32) 32#32) 16#32) 8#32)
    4#32) 2#32) 1#32

/-- The exponents of a vector of rows with greatest magnitudes `a`. -/
def exponentV (a : FVec Ideal s .f32) : IVec s 32 :=
  select
    (ori (ori (cmpi .eq (biasedV (mulf a (broadcast s (Scalar.ofBits .f32 0x3B124925#32)))) (broadcast s 0#32))
        (cmpi .eq (biasedV (mulf a (broadcast s (Scalar.ofBits .f32 0x3B124925#32)))) (broadcast s 255#32)))
      (cmpf .oeq a (broadcast s (Scalar.ofBits .f32 0x00000000#32))))
    (broadcast s 0#32) (subi (biasedV (mulf a (broadcast s (Scalar.ofBits .f32 0x3B124925#32)))) (broadcast s 126#32))

theorem pow2V_apply (n : IVec s 32) (i : s.Idx) : pow2V n i = Exponent.pow2 (n i) := rfl

theorem probeV_apply (r : FVec Ideal s .f32) (k : IVec s 32) (b : BitVec 32) (i : s.Idx) :
    probeV r k b i = Exponent.probe (r i) (k i) b := rfl

theorem biasedV_apply (r : FVec Ideal s .f32) (i : s.Idx) : biasedV r i = Exponent.biased (r i) := by
  unfold biasedV Exponent.biased
  simp only [probeV_apply]
  rfl

/-- The exponent of row `i`. -/
theorem exponentV_apply (a : FVec Ideal s .f32) (i : s.Idx) : exponentV a i = Exponent.exponentWord (a i) := by
  have h : biasedV (mulf a (broadcast s (Scalar.ofBits .f32 0x3B124925#32))) i
      = Exponent.biased (a i * Ideal.ofBits .f32 0x3B124925#32) := biasedV_apply _ i
  have z : (FloatOps.ofBits .f32 0x00000000#32 : Ideal .f32) = (0 : EReal) := Ideal.ofBits_zero_f32
  unfold exponentV Exponent.exponentWord
  rw [← h, ← z]
  rfl

variable [Facts]

/-! ## The search on the tokens -/

section Token
variable (x : FVec Ideal S64x2048 .f32)

theorem token_two : k0_pay32 (F := Ideal) x = probeV (k0_pay31 x) (broadcast S64x1 0#32) 128#32 := rfl

theorem token_four (r : FVec Ideal S64x1 .f32) (k : IVec S64x1 32) :
    k0_pay38 r k (addi k (broadcast S64x1 64#32))
      (addi (subi (addi k (broadcast S64x1 64#32)) (broadcast S64x1 127#32)) (broadcast S64x1 127#32))
      (cmpi .sle (addi (subi (addi k (broadcast S64x1 64#32)) (broadcast S64x1 127#32)) (broadcast S64x1 127#32)) (broadcast S64x1 0#32))
      (cmpi .sge (addi (subi (addi k (broadcast S64x1 64#32)) (broadcast S64x1 127#32)) (broadcast S64x1 127#32)) (broadcast S64x1 255#32))
      (broadcast S64x1 23#32)
      = probeV r (probeV r k 64#32) 32#32 := rfl

theorem token_six (r : FVec Ideal S64x1 .f32) (k : IVec S64x1 32) :
    k0_pay44 r k (addi k (broadcast S64x1 16#32))
      (cmpi .sle (addi (subi (addi k (broadcast S64x1 16#32)) (broadcast S64x1 127#32)) (broadcast S64x1 127#32)) (broadcast S64x1 0#32))
      (select (cmpi .sge (addi (subi (addi k (broadcast S64x1 16#32)) (broadcast S64x1 127#32)) (broadcast S64x1 127#32)) (broadcast S64x1 255#32))
        (broadcast S64x1 2139095040#32)
        (shli (addi (subi (addi k (broadcast S64x1 16#32)) (broadcast S64x1 127#32)) (broadcast S64x1 127#32)) (broadcast S64x1 23#32)))
      (broadcast S64x1 0#32)
      = probeV r (probeV r (probeV r k 16#32) 8#32) 4#32 := rfl

theorem token_eight (r : FVec Ideal S64x1 .f32) (k : IVec S64x1 32) :
    k0_pay46 r k (broadcast S64x1 2#32) = probeV r (probeV r k 2#32) 1#32 := rfl

/-- The tokens' search up to its first three steps. -/
def tokenThree : IVec S64x1 32 :=
  k0_pay38 (k0_pay31 x) (k0_pay32 x) (k0_pay33 x) (k0_pay34 x) (k0_pay35 x) (k0_pay36 x) k0_pay37

/-- The tokens' search up to its first six steps. -/
def tokenSix : IVec S64x1 32 :=
  k0_pay44 (k0_pay31 x) (tokenThree x)
    (k0_pay39 (k0_pay31 x) (k0_pay32 x) (k0_pay33 x) (k0_pay34 x) (k0_pay35 x) (k0_pay36 x) k0_pay37)
    (k0_pay41 (k0_pay31 x) (k0_pay32 x) (k0_pay33 x) (k0_pay34 x) (k0_pay35 x) (k0_pay36 x) k0_pay37)
    (k0_pay42 (k0_pay31 x) (k0_pay32 x) (k0_pay33 x) (k0_pay34 x) (k0_pay35 x) (k0_pay36 x) k0_pay37) k0_pay43

theorem tokenThree_eq :
    tokenThree x = probeV (k0_pay31 x) (probeV (k0_pay31 x) (probeV (k0_pay31 x) (broadcast S64x1 0#32) 128#32) 64#32) 32#32 := by
  rw [← token_two, ← token_four]; rfl

theorem tokenSix_eq :
    tokenSix x = probeV (k0_pay31 x) (probeV (k0_pay31 x) (probeV (k0_pay31 x) (tokenThree x) 16#32) 8#32) 4#32 := by
  rw [← token_six]; rfl

/-- The tokens' exponents. -/
def tokenExponent : IVec S64x1 32 :=
  k0_pay48 (k0_pay30 x) (k0_pay46 (k0_pay31 x) (tokenSix x) k0_pay45) (k0_pay47 (k0_pay31 x) (tokenSix x) k0_pay45)
    (FloatOps.ofBits .f32 0#32)

theorem tokenExponent_eq : tokenExponent x = exponentV (k0_pay30 x) := by
  have h : k0_pay46 (F := Ideal) (k0_pay31 x) (tokenSix x) k0_pay45 = biasedV (k0_pay31 x) := by
    unfold biasedV
    rw [← tokenThree_eq, ← tokenSix_eq, ← token_eight]; rfl
  unfold tokenExponent k0_pay47
  rw [h]; rfl

end Token

/-! ## The search on the hidden rows -/

section Hidden
variable (a r : FVec Ideal S64x1 .f32)

/-- The hidden rows' search up to its first two steps. -/
def hiddenTwo : IVec S64x1 32 := k0_pay63 r k0_pay57 k0_pay58 k0_pay59 k0_pay60 k0_pay61 k0_pay62

/-- The hidden rows' search up to its first five steps. -/
def hiddenFive : IVec S64x1 32 :=
  k0_pay69 r (hiddenTwo r) (k0_pay64 r k0_pay57 k0_pay58 k0_pay59 k0_pay60 k0_pay61 k0_pay62)
    (k0_pay66 r k0_pay57 k0_pay58 k0_pay59 k0_pay60 k0_pay61 k0_pay62)
    (k0_pay67 r k0_pay57 k0_pay58 k0_pay59 k0_pay60 k0_pay61 k0_pay62) k0_pay68

theorem hiddenTwo_eq : hiddenTwo r = probeV r (probeV r (broadcast S64x1 0#32) 128#32) 64#32 := rfl

theorem hidden_five (k : IVec S64x1 32) :
    k0_pay69 r k (addi k (broadcast S64x1 32#32))
      (cmpi .sle (addi (subi (addi k (broadcast S64x1 32#32)) (broadcast S64x1 127#32)) (broadcast S64x1 127#32)) (broadcast S64x1 0#32))
      (select (cmpi .sge (addi (subi (addi k (broadcast S64x1 32#32)) (broadcast S64x1 127#32)) (broadcast S64x1 127#32)) (broadcast S64x1 255#32))
        (broadcast S64x1 2139095040#32)
        (shli (addi (subi (addi k (broadcast S64x1 32#32)) (broadcast S64x1 127#32)) (broadcast S64x1 127#32)) (broadcast S64x1 23#32)))
      (broadcast S64x1 0#32)
      = probeV r (probeV r (probeV r k 32#32) 16#32) 8#32 := rfl

theorem hiddenFive_eq : hiddenFive r = probeV r (probeV r (probeV r (hiddenTwo r) 32#32) 16#32) 8#32 := by
  rw [← hidden_five]; rfl

/-- The hidden rows' search up to its first seven steps. -/
def hiddenSeven : IVec S64x1 32 := k0_pay71 r (hiddenFive r) k0_pay70

theorem hiddenSeven_eq : hiddenSeven r = probeV r (probeV r (hiddenFive r) 4#32) 2#32 := rfl

/-- The hidden rows' exponents. -/
def hiddenExponent : IVec S64x1 32 :=
  k0_pay75 a r (hiddenSeven r) (k0_pay72 r (hiddenFive r) k0_pay70) (k0_pay73 r (hiddenFive r) k0_pay70) k0_pay74

/-- The last step and the cases in which the exponent is zero. -/
theorem hidden_last (k : IVec S64x1 32) :
    k0_pay75 a r k (addi k (broadcast S64x1 1#32)) (subi (addi k (broadcast S64x1 1#32)) (broadcast S64x1 127#32)) (broadcast S64x1 127#32)
      = select (ori (ori (cmpi .eq (probeV r k 1#32) (broadcast S64x1 0#32)) (cmpi .eq (probeV r k 1#32) (broadcast S64x1 255#32)))
          (cmpf .oeq a (broadcast S64x1 (Scalar.ofBits .f32 0x00000000#32))))
        (broadcast S64x1 0#32) (subi (probeV r k 1#32) (broadcast S64x1 126#32)) := rfl

theorem hiddenExponent_eq : hiddenExponent a (mulf a (broadcast S64x1 (Scalar.ofBits .f32 0x3B124925#32))) = exponentV a := by
  unfold exponentV
  generalize mulf a (broadcast S64x1 (Scalar.ofBits .f32 0x3B124925#32)) = r
  unfold biasedV
  rw [← hiddenTwo_eq, ← hiddenFive_eq, ← hiddenSeven_eq, ← hidden_last]
  rfl

end Hidden

end Cert.KernelSearch
-- ==== Proof.Routing.lean ====
/-
  ROUTING, one token's row of logits.

  The reference sorts the row, greatest first and stably, and takes the first four. The kernel takes the greatest four times:
  each round finds the greatest logit not yet taken and, of its places, the first. Here the two are shown to name the same
  experts in the same order, whatever the logits are.
-/
module

public import Idealize.ShloMosaic.PureOps.Ideal
public import Idealize.ShloMosaic.Lib.SortFacts
public import Mathlib.Data.Finset.Fold
public import Mathlib.Algebra.BigOperators.Fin

@[expose] public section

noncomputable section

namespace Cert.Routing

open Idealize.ShloMosaic

/-! ## The stable sort is lexicographic -/

/-- `a` stands before `b` in a stable descending sort: by the greater value, or at equal values by the earlier place. -/
def Before (l : Fin 32 → EReal) (a b : Fin 32) : Prop := l b < l a ∨ (l a = l b ∧ a < b)

theorem Before.trans {l : Fin 32 → EReal} {a b c : Fin 32} (h : Before l a b) (h' : Before l b c) : Before l a c := by
  unfold Before at *
  rcases h with h | ⟨h, k⟩ <;> rcases h' with h' | ⟨h', k'⟩
  · exact .inl (h'.trans h)
  · exact .inl (h' ▸ h)
  · exact .inl (h ▸ h')
  · exact .inr ⟨h.trans h', k.trans k'⟩

/-- Putting a place earlier than all of a sorted list into that list keeps it sorted. -/
theorem pairwise_insert (l : Fin 32 → EReal) (before : Fin 32 → Fin 32 → Bool) (hb : ∀ a b, before a b = true ↔ l b < l a)
    (a : Fin 32) (xs : List (Fin 32)) (h : xs.Pairwise (Before l)) (ha : ∀ b ∈ xs, a < b) :
    (insertBefore before a xs).Pairwise (Before l) := by
  induction xs with
  | nil => exact List.pairwise_singleton _ _
  | cons b xs ih =>
    rw [List.pairwise_cons] at h
    unfold insertBefore
    split
    · rename_i hba
      refine List.pairwise_cons.mpr ⟨fun c hc => ?_, ih h.2 fun c hc => ha c (List.mem_cons_of_mem _ hc)⟩
      rcases List.mem_cons.mp ((perm_insertBefore before a xs).mem_iff.mp hc) with rfl | hc
      · exact .inl ((hb _ _).mp hba)
      · exact h.1 c hc
    · rename_i hba
      have hab : Before l a b := by
        have : ¬ l a < l b := fun k => hba ((hb _ _).mpr k)
        rcases lt_or_eq_of_le (not_lt.mp this) with k | k
        · exact .inl k
        · exact .inr ⟨k.symm, ha b List.mem_cons_self⟩
      refine List.pairwise_cons.mpr ⟨fun c hc => ?_, List.pairwise_cons.mpr h⟩
      rcases List.mem_cons.mp hc with rfl | hc
      · exact hab
      · exact hab.trans (h.1 c hc)

theorem pairwise_sort (l : Fin 32 → EReal) (before : Fin 32 → Fin 32 → Bool) (hb : ∀ a b, before a b = true ↔ l b < l a)
    (xs : List (Fin 32)) (h : xs.Pairwise (· < ·)) : (stableSort before xs).Pairwise (Before l) := by
  induction xs with
  | nil => exact List.Pairwise.nil
  | cons a xs ih =>
    rw [List.pairwise_cons] at h
    unfold stableSort
    exact pairwise_insert l before hb a _ (ih h.2) fun b hb' => h.1 b ((perm_stableSort before xs).mem_iff.mp hb')

/-- What holds of any two members of the sorted list in turn holds of the sorting permutation. -/
theorem sortedFrom_pairwise {n : ℕ} (before : Fin n → Fin n → Bool) (R : Fin n → Fin n → Prop)
    (hp : (sortPositions n before).Pairwise R) {i j : Fin n} (h : i < j) : R (sortedFrom before i) (sortedFrom before j) := by
  have := List.pairwise_iff_get.mp hp
  unfold sortedFrom
  exact this _ _ (by simp only [Fin.lt_def, Fin.val_cast]; exact h)

/-- The experts of a row of logits, greatest logit first. -/
def order (l : Fin 32 → EReal) : Fin 32 → Fin 32 :=
  sortedFrom fun a b => FloatOps.cmpfTotal (F := Ideal) (φ := .f32) .gt (l a) (l b) == 1#1

theorem order_bijective (l : Fin 32 → EReal) : Function.Bijective (order l) :=
  ⟨sortedFrom_injective _, sortedFrom_surjective _⟩

/-- An earlier place in the order stands before a later one. -/
theorem order_before (l : Fin 32 → EReal) {i j : Fin 32} (h : i < j) : Before l (order l i) (order l j) := by
  have hb : ∀ a b : Fin 32, (FloatOps.cmpfTotal (F := Ideal) (φ := .f32) .gt (l a) (l b) == 1#1) = true ↔ l b < l a := by
    intro a b
    have : FloatOps.cmpfTotal (F := Ideal) (φ := .f32) .gt (l a) (l b) = BitVec.ofBool (decide (l b < l a)) := rfl
    rw [this]
    by_cases k : l b < l a <;> simp [k]
  exact sortedFrom_pairwise _ (Before l) (pairwise_sort l _ hb (List.finRange 32) (List.pairwise_lt_finRange 32)) h

theorem order_le (l : Fin 32 → EReal) {i j : Fin 32} (h : i ≤ j) : l (order l j) ≤ l (order l i) := by
  rcases eq_or_lt_of_le h with rfl | h
  · exact le_rfl
  · rcases order_before l h with k | ⟨k, _⟩
    · exact k.le
    · exact k.symm.le

/-! ## A round of the kernel -/

/-- A row's logits with those already taken at −∞. -/
def work (T : Fin 32 → BitVec 1) (l : Fin 32 → EReal) (x : Fin 32) : EReal :=
  Scalar.select (T x) (Ideal.ofBits .f32 4286578688#32) (l x)

/-- The greatest logit not taken. -/
def top (T : Fin 32 → BitVec 1) (l : Fin 32 → EReal) : EReal :=
  Finset.fold max (Ideal.ofBits .f32 4286578688#32) (fun x => work T l x) Finset.univ

/-- The place, as a number, if it is one of the greatest not taken, and 32 if not. -/
def place (T : Fin 32 → BitVec 1) (l : Fin 32 → EReal) (x : Fin 32) : EReal :=
  Scalar.select (IntOp.andi (BitVec.ofBool (decide (work T l x = top T l))) (IntOp.xori (T x) 1#1))
    (FloatOps.sitofp .f32 (BitVec.ofNat 32 x.val) : Ideal .f32) (Ideal.ofBits .f32 1107296256#32)

/-- The first place of the greatest logit not taken, as a number. -/
def first (T : Fin 32 → BitVec 1) (l : Fin 32 → EReal) : EReal :=
  Finset.fold min (Ideal.ofBits .f32 2139095040#32) (fun x => place T l x) Finset.univ

/-- The mark of that place. -/
def pick (T : Fin 32 → BitVec 1) (l : Fin 32 → EReal) (x : Fin 32) : BitVec 1 :=
  BitVec.ofBool (decide ((FloatOps.sitofp .f32 (BitVec.ofNat 32 x.val) : Ideal .f32) = first T l))

/-- What is taken after the round. -/
def next (T : Fin 32 → BitVec 1) (l : Fin 32 → EReal) (x : Fin 32) : BitVec 1 := IntOp.ori (T x) (pick T l x)

theorem ofBits_neg_inf : Ideal.ofBits .f32 4286578688#32 = (⊥ : EReal) := by
  simp [Ideal.ofBits, Ideal.ieee]

theorem ofBits_inf : Ideal.ofBits .f32 2139095040#32 = (⊤ : EReal) := by
  simp [Ideal.ofBits, Ideal.ieee]

theorem ofBits_thirtyTwo : Ideal.ofBits .f32 1107296256#32 = ((32 : ℝ) : EReal) := by
  simp [Ideal.ofBits, Ideal.ieee, -EReal.coe_mul]; norm_num

theorem sitofp_place (x : Fin 32) : (FloatOps.sitofp .f32 (BitVec.ofNat 32 x.val) : Ideal .f32) = (((x.val : ℕ) : ℝ) : EReal) := by
  have : ∀ x : Fin 32, (BitVec.ofNat 32 x.val).toInt = (x.val : Int) := by decide
  show (((BitVec.ofNat 32 x.val).toInt : ℝ) : EReal) = _
  rw [this]
  norm_cast

/-- After `r` rounds the first `r` experts of the order are the ones taken. -/
def Taken (l : Fin 32 → EReal) (r : ℕ) (T : Fin 32 → BitVec 1) : Prop :=
  ∀ i : Fin 32, T (order l i) = BitVec.ofBool (decide (i.val < r))

section Round
variable {l : Fin 32 → EReal} {r : Fin 32} {T : Fin 32 → BitVec 1} (hT : Taken l r.val T)
include hT

theorem work_order (i : Fin 32) : work T l (order l i) = if i < r then ⊥ else l (order l i) := by
  unfold work
  rw [hT i, ofBits_neg_inf]
  by_cases h : i < r <;> simp [h, Scalar.select, Fin.lt_def.symm]

/-- The round's greatest logit is that of the next expert of the order. -/
theorem top_eq : top T l = l (order l r) := by
  unfold top
  rw [ofBits_neg_inf]
  apply le_antisymm
  · refine (Finset.fold_max_le _).mpr ⟨bot_le, fun x _ => ?_⟩
    obtain ⟨i, rfl⟩ := (order_bijective l).2 x
    rw [work_order hT]
    split
    · exact bot_le
    · rename_i h; exact order_le l (not_lt.mp h)
  · refine (Finset.le_fold_max _).mpr (.inr ⟨order l r, Finset.mem_univ _, ?_⟩)
    rw [work_order hT, if_neg (lt_irrefl _)]

theorem place_order (i : Fin 32) :
    place T l (order l i) = if r ≤ i ∧ l (order l i) = l (order l r) then (((order l i).val : ℝ) : EReal) else ((32 : ℝ) : EReal) := by
  unfold place
  rw [work_order hT, top_eq hT, hT i, sitofp_place, ofBits_thirtyTwo]
  generalize l (order l i) = u
  generalize l (order l r) = v
  generalize (((order l i).val : ℝ) : EReal) = n
  by_cases h : i < r
  · have h' : ¬ r ≤ i := not_le.mpr h
    simp only [h, h', Fin.lt_def.symm, if_true, decide_true, false_and, if_false]
    by_cases k : (⊥ : EReal) = v <;> simp [k, Scalar.select, IntOp.andi, IntOp.xori]
  · have h' : r ≤ i := not_lt.mp h
    simp only [h, h', Fin.lt_def.symm, if_false, decide_false, true_and]
    by_cases k : u = v <;> simp [k, Scalar.select, IntOp.andi, IntOp.xori]

theorem first_eq : first T l = (((order l r).val : ℝ) : EReal) := by
  unfold first
  rw [ofBits_inf]
  apply le_antisymm
  · refine (Finset.fold_min_le _).mpr (.inr ⟨order l r, Finset.mem_univ _, ?_⟩)
    rw [place_order hT, if_pos ⟨le_rfl, rfl⟩]
  · refine (Finset.le_fold_min _).mpr ⟨le_top, fun x _ => ?_⟩
    obtain ⟨i, rfl⟩ := (order_bijective l).2 x
    rw [place_order hT]
    split
    · rename_i h
      rcases eq_or_lt_of_le h.1 with rfl | k
      · exact le_rfl
      · rcases order_before l k with k | ⟨_, k⟩
        · exact absurd h.2 k.ne
        · exact_mod_cast (Fin.lt_def.mp k).le
    · exact_mod_cast (order l r).isLt.le

/-- The round picks the next expert of the order. -/
theorem pick_eq (x : Fin 32) : pick T l x = BitVec.ofBool (decide (x = order l r)) := by
  unfold pick
  rw [first_eq hT, sitofp_place]
  congr 1
  apply decide_eq_decide.mpr
  rw [Fin.ext_iff]
  norm_cast

theorem next_taken : Taken l (r.val + 1) (next T l) := by
  intro i
  unfold next
  rw [pick_eq hT, hT i]
  have : order l i = order l r ↔ i = r := (order_bijective l).1.eq_iff
  simp only [this]
  by_cases h : i.val < r.val
  · have h1 : i ≠ r := fun k => by simp [k] at h
    simp [h, h1, IntOp.ori, Nat.lt_succ_of_lt h]
  · by_cases k : i = r
    · simp [k, IntOp.ori]
    · have : ¬ i.val < r.val + 1 := by
        have := fun h => k (Fin.ext h)
        omega
      simp [h, k, IntOp.ori, this]

end Round

theorem taken_zero (l : Fin 32 → EReal) : Taken l 0 fun _ => 0#1 := fun i => by simp

end Cert.Routing
-- ==== Proof.Spec.lean ====
/-
  WHAT BOTH PROGRAMS COMPUTE, one token and one column at a time, over the extended reals.

  A row is quantised by its greatest magnitude: every element is multiplied by a power of two and cut off at ±448. An expert's
  answer to a token is two products of quantised rows with its matrices and a gated activation between them. The result is the
  sum of the four chosen experts' answers, weighted by the softmax of their logits.
-/
module

public import proofs.«01_k».proof.Proof.Exponent
public import proofs.«01_k».proof.Proof.Routing

@[expose] public section

noncomputable section

namespace Cert.Spec

open Idealize.ShloMosaic

/-- The greatest magnitude of a row. -/
def maxAbs {n : ℕ} (v : Fin n → EReal) : EReal :=
  Finset.fold max (Ideal.ofBits .f32 4286578688#32) (fun k => max (v k) (-(v k))) Finset.univ

/-- An element `v` of a row with greatest magnitude `a`, quantised. -/
def code (a v : EReal) : EReal :=
  min (Ideal.ofBits .f32 1138753536#32) (max (Ideal.ofBits .f32 3286237184#32) (v * Exponent.invScale a))

/-- The product of a quantised row with a column of weights, scaled back. -/
def dot {n : ℕ} (v w : Fin n → EReal) (s : EReal) : EReal :=
  (∑ k, code (maxAbs v) (v k) * w k) * Exponent.scale (maxAbs v) * s

/-- The hidden row of an expert: the first half of the products passed through the activation, times the second half. -/
def hidden (x : Fin 2048 → EReal) (w : Fin 2048 → Fin 2048 → EReal) (s : Fin 2048 → EReal) (f : Fin 1024) : EReal :=
  dot x (fun d => w d ⟨f.val, by omega⟩) (s ⟨f.val, by omega⟩)
    * Ideal.logistic (dot x (fun d => w d ⟨f.val, by omega⟩) (s ⟨f.val, by omega⟩))
    * dot x (fun d => w d ⟨1024 + f.val, by omega⟩) (s ⟨1024 + f.val, by omega⟩)

/-- An expert's answer at column `d`. -/
def expert (x : Fin 2048 → EReal) (w : Fin 2048 → Fin 2048 → EReal) (s : Fin 2048 → EReal) (w' : Fin 1024 → Fin 2048 → EReal)
    (s' : Fin 2048 → EReal) (d : Fin 2048) : EReal :=
  dot (hidden x w s) (fun f => w' f d) (s' d)

/-- A token's logits: the products of its row with the router's weights. -/
def logits (x : Fin 2048 → EReal) (r : Fin 2048 → Fin 32 → EReal) (e : Fin 32) : EReal := ∑ k, x k * r k e

/-- The `k`-th chosen expert of a row of logits. -/
def chosen (l : Fin 32 → EReal) (k : Fin 4) : Fin 32 := Routing.order l ⟨k.val, by omega⟩

/-- The unnormalised weight of the `k`-th chosen expert. -/
def weight (l : Fin 32 → EReal) (k : Fin 4) : EReal := Ideal.exp (l (chosen l k) - l (chosen l 0))

/-- The weight of the `k`-th chosen expert. -/
def gate (l : Fin 32 → EReal) (k : Fin 4) : EReal := Ideal.div (weight l k) (∑ j, weight l j)

/-- The result for a token with logits `l`, given every expert's answer `y`. -/
def mix (l : Fin 32 → EReal) (y : Fin 32 → EReal) : EReal := ∑ k, y (chosen l k) * gate l k

theorem chosen_injective (l : Fin 32 → EReal) : Function.Injective (chosen l) := fun i j h => by
  have := (Routing.order_bijective l).1 h
  exact Fin.ext (by simpa using congrArg Fin.val this)

/-- The result at token `t` and column `d`. -/
def result (x : Fin 64 → Fin 2048 → EReal) (r : Fin 2048 → Fin 32 → EReal) (w : Fin 32 → Fin 2048 → Fin 2048 → EReal)
    (s : Fin 32 → Fin 2048 → EReal) (w' : Fin 32 → Fin 1024 → Fin 2048 → EReal) (s' : Fin 32 → Fin 2048 → EReal) (t : Fin 64)
    (d : Fin 2048) : EReal :=
  mix (logits (x t) r) fun e => expert (x t) (w e) (s e) (w' e) (s' e) d

end Cert.Spec
-- ==== Proof.KernelBlock.lean ====
/-
  WHAT ONE BLOCK OF THE KERNEL COMPUTES, read at a token and a column.

  The first grid point quantises the tokens. Every grid point takes the quantised tokens through one expert and adds the
  expert's answer, times its gate, where the gate is not negative.
-/
module

public import proofs.«01_k».proof.Proof.KernelSearch
public import proofs.«01_k».proof.Proof.Spec
public import Idealize.ShloMosaic.Lib.Pointwise

@[expose] public section

set_option maxRecDepth 16384

noncomputable section

namespace Cert.KernelBlock

open Cert.KernelIdeal Cert.KernelIdeal.Gen Idealize.ShloMosaic Cert.KernelSearch

variable [Facts]

/-! ## The quantised tokens -/

section Token
variable (x : FVec Ideal S64x2048 .f32)

/-- The greatest magnitude of a token. -/
theorem tokenMax_apply (t : Fin 64) (z : Fin 1) : k0_pay30 x (ix2 t z) = Spec.maxAbs fun d => x (ix2 t d) := by
  unfold Spec.maxAbs
  pointwise [k0_pay30]
  rfl

/-- The quantised tokens that the kernel stores. -/
def tokenCodes : FVec Ideal S64x2048 .fp8e4m3 :=
  k0_pay51 (k0_pay49 x (k0_pay30 x) (k0_pay46 (k0_pay31 x) (tokenSix x) k0_pay45) (k0_pay47 (k0_pay31 x) (tokenSix x) k0_pay45)
    (FloatOps.ofBits .f32 0#32))

/-- The tokens' scales that the kernel stores. -/
def tokenScale : FVec Ideal S64x1 .f32 :=
  k0_pay52 (k0_pay50 (k0_pay30 x) (k0_pay46 (k0_pay31 x) (tokenSix x) k0_pay45) (k0_pay47 (k0_pay31 x) (tokenSix x) k0_pay45)
    (FloatOps.ofBits .f32 0#32))

theorem tokenCodes_eq : tokenCodes x = shapeCast S64x2048 (truncf .fp8e4m3
      (minimumf (broadcast S64x2048 (Scalar.ofBits .f32 0x43E00000#32)) (maximumf (broadcast S64x2048 (Scalar.ofBits .f32 0xC3E00000#32))
        (mulf x (broadcastTo S64x2048 (pow2V (subi (broadcast S64x1 0#32) (tokenExponent x))) broadcasts_S64x1_S64x2048))))
      bitsLt_fp8e4m3_f32) shapeCasts_S64x2048_S64x2048 := rfl

theorem tokenScale_eq : tokenScale x = shapeCast S64x1 (pow2V (tokenExponent x)) shapeCasts_S64x1_S64x1 := rfl

theorem tokenCodes_apply (t : Fin 64) (d : Fin 2048) :
    tokenCodes x (ix2 t d) = Spec.code (Spec.maxAbs fun d => x (ix2 t d)) (x (ix2 t d)) := by
  have h : tokenCodes x (ix2 t d) = min (Ideal.ofBits .f32 1138753536#32) (max (Ideal.ofBits .f32 3286237184#32)
      (x (ix2 t d) * pow2V (subi (broadcast S64x1 0#32) (tokenExponent x)) (ix2 t 0))) := by
    rw [tokenCodes_eq]
    generalize pow2V (subi (broadcast S64x1 0#32) (tokenExponent x)) = p
    pointwise
  have k : pow2V (subi (broadcast S64x1 0#32) (tokenExponent x)) (ix2 t 0)
      = Exponent.pow2 (IntOp.subi 0#32 (tokenExponent x (ix2 t 0))) := rfl
  rw [h, k, tokenExponent_eq, exponentV_apply, Exponent.pow2_neg_exponentWord, tokenMax_apply]
  rfl

theorem tokenScale_apply (t : Fin 64) (z : Fin 1) :
    tokenScale x (ix2 t z) = Exponent.scale (Spec.maxAbs fun d => x (ix2 t d)) := by
  have h : tokenScale x (ix2 t z) = pow2V (tokenExponent x) (ix2 t z) := by
    rw [tokenScale_eq]
    generalize pow2V (tokenExponent x) = p
    pointwise
  rw [h, pow2V_apply, tokenExponent_eq, exponentV_apply, Exponent.pow2_exponentWord, tokenMax_apply]

end Token

/-! ## One expert -/

section Expert
variable (C : Vec Ideal S64x2048 .fp8e4m3) (S : Vec Ideal S64x1 .f32) (w : Vec Ideal S1x2048x2048 .fp8e4m3) (s : Vec Ideal S1x1x2048 .f32)
  (w' : Vec Ideal S1x1024x2048 .fp8e4m3) (s' : Vec Ideal S1x1x2048 .f32) (g : Vec Ideal S64x32 .f32) (y : Vec Ideal S64x2048 .f32)
  (n : BitVec 32)

/-- The sum the kernel stores at a grid point with expert `n`, from the sum `y` so far. -/
def step : FVec Ideal S64x2048 .f32 :=
  k0_pay1 (k0_pay77 n g)
    (k0_pay78 n (hiddenExponent (k0_pay55 C w S s) (k0_pay56 C w S s))
      (k0_pay76 (k0_pay54 C w S s) (k0_pay55 C w S s) (k0_pay56 C w S s) (hiddenSeven (k0_pay56 C w S s))
        (k0_pay72 (k0_pay56 C w S s) (hiddenFive (k0_pay56 C w S s)) k0_pay70)
        (k0_pay73 (k0_pay56 C w S s) (hiddenFive (k0_pay56 C w S s)) k0_pay70) k0_pay74)
      w' g s')
    (k0_pay79 y)

/-- The hidden rows scaled down. -/
theorem scaled_eq : k0_pay76 (k0_pay54 C w S s) (k0_pay55 C w S s) (k0_pay56 C w S s) (hiddenSeven (k0_pay56 C w S s))
        (k0_pay72 (k0_pay56 C w S s) (hiddenFive (k0_pay56 C w S s)) k0_pay70)
        (k0_pay73 (k0_pay56 C w S s) (hiddenFive (k0_pay56 C w S s)) k0_pay70) k0_pay74
    = mulf (k0_pay54 C w S s) (broadcastTo S64x1024
        (pow2V (subi (broadcast S64x1 0#32) (hiddenExponent (k0_pay55 C w S s) (k0_pay56 C w S s)))) broadcasts_S64x1_S64x1024) := rfl

theorem hiddenExponent_pay : hiddenExponent (k0_pay55 C w S s) (k0_pay56 C w S s) = exponentV (k0_pay55 C w S s) :=
  hiddenExponent_eq _

/-- The greatest magnitude of a hidden row. -/
theorem hiddenMax_apply (t : Fin 64) (z : Fin 1) :
    k0_pay55 C w S s (ix2 t z) = Spec.maxAbs fun f => k0_pay54 C w S s (ix2 t f) := by
  unfold Spec.maxAbs
  generalize hH : k0_pay54 C w S s = H
  have h : k0_pay55 C w S s = shapeCast S64x1 (multiReduction .maximumf [1] S64 (absf H) 0xFF800000#32 reduces_S64x1024_S64 (.inl rfl) rfl)
      shapeCasts_S64_S64x1 := by rw [← hH]; rfl
  rw [h]
  pointwise
  rfl

/-- A token's answer from the expert, times its gate. -/
theorem answer_apply (h : FVec Ideal S64x1024 .f32) (e : IVec S64x1 32) (a : FVec Ideal S64x1 .f32) (he : e = exponentV a)
    (ha : ∀ t z, a (ix2 t z) = Spec.maxAbs fun f => h (ix2 t f)) (t : Fin 64) (d : Fin 2048) :
    k0_pay78 n e (mulf h (broadcastTo S64x1024 (pow2V (subi (broadcast S64x1 0#32) e)) broadcasts_S64x1_S64x1024)) w' g s' (ix2 t d)
      = Spec.dot (fun f => h (ix2 t f)) (fun f => w' (ix3 0 f d)) (s' (ix3 0 0 d)) * k0_pay77 n g (ix2 t 0) := by
  have q : ∀ f, (mulf h (broadcastTo S64x1024 (pow2V (subi (broadcast S64x1 0#32) e)) broadcasts_S64x1_S64x1024)) (ix2 t f)
      = h (ix2 t f) * Exponent.invScale (Spec.maxAbs fun f => h (ix2 t f)) := by
    intro f
    have : (mulf h (broadcastTo S64x1024 (pow2V (subi (broadcast S64x1 0#32) e)) broadcasts_S64x1_S64x1024)) (ix2 t f)
        = h (ix2 t f) * pow2V (subi (broadcast S64x1 0#32) e) (ix2 t 0) := by
      generalize pow2V (subi (broadcast S64x1 0#32) e) = p
      pointwise
    rw [this, ← ha t 0, ← Exponent.pow2_neg_exponentWord, ← exponentV_apply, ← he]
    rfl
  have p : Exponent.scale (Spec.maxAbs fun f => h (ix2 t f)) = Exponent.pow2 (e (ix2 t 0)) := by
    rw [he, exponentV_apply, Exponent.pow2_exponentWord, ha]
  unfold Spec.dot Spec.code
  rw [p]
  simp only [← q]
  generalize mulf h (broadcastTo S64x1024 (pow2V (subi (broadcast S64x1 0#32) e)) broadcasts_S64x1_S64x1024) = v
  unfold Exponent.pow2
  pointwise [k0_pay78]

/-- The sum after the grid point: the sum before, and the answer times the gate where the gate is not negative. -/
theorem step_apply (t : Fin 64) (d : Fin 2048) :
    step C S w s w' s' g y n (ix2 t d) = y (ix2 t d) +
      if 0 ≤ k0_pay77 n g (ix2 t 0) then
        Spec.dot (fun f => k0_pay54 C w S s (ix2 t f)) (fun f => w' (ix3 0 f d)) (s' (ix3 0 0 d)) * k0_pay77 n g (ix2 t 0)
      else 0 := by
  have h : ∀ (G : FVec Ideal S64x1 .f32) (v : FVec Ideal S64x2048 .f32), k0_pay1 G v (k0_pay79 y) (ix2 t d)
      = y (ix2 t d) + Scalar.select (BitVec.ofBool (decide (Ideal.ofBits .f32 0#32 ≤ G (ix2 t 0)))) (v (ix2 t d)) (Ideal.ofBits .f32 0#32) := by
    intro G v
    pointwise [k0_pay1, k0_pay79]
  have z : Ideal.ofBits .f32 0#32 = (0 : EReal) := Ideal.ofBits_zero_f32
  unfold step
  rw [h, scaled_eq, answer_apply _ _ _ _ _ _ (k0_pay55 C w S s) (hiddenExponent_pay C S w s) (hiddenMax_apply C S w s), z]
  by_cases k : 0 ≤ k0_pay77 n g (ix2 t 0) <;> simp [k, Scalar.select]

/-- The gate of the grid point's expert. -/
theorem gate_apply (t : Fin 64) (z : Fin 1) (e : Fin 32) : k0_pay77 (BitVec.ofNat 32 e.val) g (ix2 t z) = g (ix2 t e) := by
  have h : k0_pay77 (BitVec.ofNat 32 e.val) g (ix2 t z)
      = ∑ x : Fin 32, Scalar.select (IntOp.cmpi .eq (BitVec.ofNat 32 x.val) (BitVec.ofNat 32 e.val)) (g (ix2 t x)) (0 : EReal) := by
    pointwise [k0_pay77]
  rw [h, Finset.sum_eq_single e]
  · simp [Scalar.select, IntOp.cmpi]
  · intro b _ hb
    have : BitVec.ofNat 32 b.val ≠ BitVec.ofNat 32 e.val := by
      intro k
      apply hb
      have := congrArg BitVec.toNat k
      simp only [BitVec.toNat_ofNat] at this
      exact Fin.ext (by omega)
    simp [Scalar.select, IntOp.cmpi, beq_false_of_ne this]
  · simp

/-- The hidden rows, from codes and scales that are those of the tokens `x`. -/
theorem hidden_apply (x : Fin 64 → Fin 2048 → EReal) (hC : ∀ t d, C (ix2 t d) = Spec.code (Spec.maxAbs (x t)) (x t d))
    (hS : ∀ t z, S (ix2 t z) = Exponent.scale (Spec.maxAbs (x t))) (t : Fin 64) (f : Fin 1024) :
    k0_pay54 C w S s (ix2 t f) = Spec.hidden (x t) (fun d f => w (ix3 0 d f)) (fun f => s (ix3 0 0 f)) f := by
  unfold Spec.hidden Spec.dot
  simp only [← hC, ← hS t 0]
  pointwise [k0_pay54]

end Expert

end Cert.KernelBlock
-- ==== Proof.KernelRouter.lean ====
/-
  THE KERNEL'S GATES, read at a token and an expert.

  The four rounds of the kernel are spread over several payloads. Here each is folded back into one vector operation of what
  is taken and the logits, which read at a token is a round of `Routing`. So the gate at a token's `k`-th chosen expert is the
  softmax weight, and at any other expert −1.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelRouter

open Cert.KernelIdeal Cert.KernelIdeal.Gen Idealize.ShloMosaic

variable [Facts]

section Rounds
variable (T : IVec S64x32 1) (l : FVec Ideal S64x32 .f32)

/-- The logits with those taken at −∞. -/
def workV : FVec Ideal S64x32 .f32 := select T (broadcast S64x32 (Scalar.ofBits .f32 0xFF800000#32)) l

/-- The greatest logit of each token. -/
def topV : FVec Ideal S64x1 .f32 :=
  shapeCast S64x1 (multiReduction .maximumf [1] S64 (workV T l) 0xFF800000#32 reduces_S64x32_S64 (.inl rfl) rfl) shapeCasts_S64_S64x1

/-- The mark of the first place of each token's greatest logit. -/
def pickV : IVec S64x32 1 :=
  cmpf .oeq (k0_pay4 (F := Ideal)) (broadcastTo S64x32 (shapeCast S64x1 (multiReduction .minimumf [1] S64
    (select (andi (cmpf .oeq (workV T l) (broadcastTo S64x32 (topV T l) broadcasts_S64x1_S64x32)) (xori T (constantI S64x32 1 1#1)))
      (k0_pay4 (F := Ideal)) (broadcast S64x32 (Scalar.ofBits .f32 0x42000000#32)))
    0x7F800000#32 reduces_S64x32_S64 (.inl rfl) rfl) shapeCasts_S64_S64x1) broadcasts_S64x1_S64x32)

/-- What is taken after the round. -/
def nextV : IVec S64x32 1 := ori T (pickV T l)

theorem workV_apply (t : Fin 64) (e : Fin 32) :
    workV T l (ix2 t e) = Routing.work (fun x => T (ix2 t x)) (fun x => l (ix2 t x)) e := rfl

theorem topV_apply (t : Fin 64) (z : Fin 1) :
    topV T l (ix2 t z) = Routing.top (fun x => T (ix2 t x)) (fun x => l (ix2 t x)) := by
  unfold Routing.top
  simp only [← workV_apply]
  pointwise [topV]

theorem pickV_apply (t : Fin 64) (e : Fin 32) :
    pickV T l (ix2 t e) = Routing.pick (fun x => T (ix2 t x)) (fun x => l (ix2 t x)) e := by
  unfold Routing.pick Routing.first Routing.place
  simp only [← topV_apply T l t 0, ← workV_apply]
  pointwise [pickV, k0_pay4]

end Rounds

section Gates
variable (l : FVec Ideal S64x32 .f32)

/-- What is taken before each of the four rounds. -/
def taken : ℕ → IVec S64x32 1
  | 0 => k0_pay5
  | r + 1 => nextV (taken r) l

/-- A token's row of logits. -/
abbrev row (t : Fin 64) : Fin 32 → EReal := fun e => l (ix2 t e)

theorem taken_row (t : Fin 64) (r : Fin 4) : Routing.Taken (row l t) r.val fun e => taken l r.val (ix2 t e) := by
  have step (r : Fin 32) (h : Routing.Taken (row l t) r.val fun e => taken l r.val (ix2 t e)) :
      Routing.Taken (row l t) (r.val + 1) fun e => taken l (r.val + 1) (ix2 t e) := by
    have e : (fun e => taken l (r.val + 1) (ix2 t e)) = Routing.next (fun e => taken l r.val (ix2 t e)) (row l t) := by
      funext e
      show IntOp.ori _ (pickV _ _ _) = _
      rw [pickV_apply]; rfl
    rw [e]
    exact Routing.next_taken h
  have h0 : Routing.Taken (row l t) 0 fun e => taken l 0 (ix2 t e) := Routing.taken_zero (row l t)
  have h1 := step 0 h0
  have h2 := step 1 h1
  have h3 := step 2 h2
  fin_cases r
  exacts [h0, h1, h2, h3]

/-- The greatest logit of round `r` is that of the `r`-th chosen expert. -/
theorem top_row (t : Fin 64) (z : Fin 1) (r : Fin 4) :
    topV (taken l r.val) l (ix2 t z) = row l t (Spec.chosen (row l t) r) := by
  rw [topV_apply]
  exact Routing.top_eq (r := ⟨r.val, by omega⟩) (taken_row l t r)

/-- Round `r` picks the `r`-th chosen expert. -/
theorem pick_row (t : Fin 64) (e : Fin 32) (r : Fin 4) :
    pickV (taken l r.val) l (ix2 t e) = BitVec.ofBool (decide (e = Spec.chosen (row l t) r)) := by
  rw [pickV_apply]
  exact Routing.pick_eq (r := ⟨r.val, by omega⟩) (taken_row l t r) e

/-- The unnormalised weights of round `r`. -/
def weightV (r : ℕ) : FVec Ideal S64x1 .f32 := exp (subf (topV (taken l r) l) (topV (taken l 0) l))

/-- Their sum. -/
def totalV : FVec Ideal S64x1 .f32 := addf (addf (addf (weightV l 0) (weightV l 1)) (weightV l 2)) (weightV l 3)

/-- The gates, with those of round `r` written over the gates `g` of the rounds before. -/
def overV (r : ℕ) (g : FVec Ideal S64x32 .f32) : FVec Ideal S64x32 .f32 :=
  select (pickV (taken l r) l)
    (broadcastTo S64x32 (shapeCast S64x1 (divf (weightV l r) (totalV l)) shapeCasts_S64x1_S64x1) broadcasts_S64x1_S64x32) g

/-- All gates. -/
def gatesV : FVec Ideal S64x32 .f32 :=
  shapeCast S64x32 (overV l 3 (overV l 2 (overV l 1 (overV l 0 (broadcast S64x32 (Scalar.ofBits .f32 0xBF800000#32))))))
    shapeCasts_S64x32_S64x32

theorem weightV_apply (t : Fin 64) (z : Fin 1) (r : Fin 4) : weightV l r.val (ix2 t z) = Spec.weight (row l t) r := by
  show Ideal.exp (topV (taken l r.val) l (ix2 t z) - topV (taken l (0 : Fin 4).val) l (ix2 t z)) = _
  rw [top_row, top_row]; rfl

theorem totalV_apply (t : Fin 64) (z : Fin 1) : totalV l (ix2 t z) = ∑ r, Spec.weight (row l t) r := by
  rw [Fin.sum_univ_four, ← weightV_apply l t z, ← weightV_apply l t z, ← weightV_apply l t z, ← weightV_apply l t z]
  rfl

theorem overV_apply (t : Fin 64) (e : Fin 32) (r : Fin 4) (g : FVec Ideal S64x32 .f32) :
    overV l r.val g (ix2 t e) = if e = Spec.chosen (row l t) r then Spec.gate (row l t) r else g (ix2 t e) := by
  have h : overV l r.val g (ix2 t e) = Scalar.select (pickV (taken l r.val) l (ix2 t e))
      (Ideal.div (weightV l r.val (ix2 t 0)) (totalV l (ix2 t 0))) (g (ix2 t e)) := by
    pointwise [overV]
  rw [h, pick_row, weightV_apply, totalV_apply]
  by_cases k : e = Spec.chosen (row l t) r <;> simp [k, Scalar.select, Spec.gate]

theorem gatesV_apply (t : Fin 64) (e : Fin 32) :
    gatesV l (ix2 t e) =
      if e = Spec.chosen (row l t) 3 then Spec.gate (row l t) 3 else
      if e = Spec.chosen (row l t) 2 then Spec.gate (row l t) 2 else
      if e = Spec.chosen (row l t) 1 then Spec.gate (row l t) 1 else
      if e = Spec.chosen (row l t) 0 then Spec.gate (row l t) 0 else Ideal.ofBits .f32 0xBF800000#32 := by
  have h : gatesV l (ix2 t e)
      = overV l 3 (overV l 2 (overV l 1 (overV l 0 (broadcast S64x32 (Scalar.ofBits .f32 0xBF800000#32))))) (ix2 t e) := by
    pointwise [gatesV]
  rw [h]
  erw [overV_apply l t e 3, overV_apply l t e 2, overV_apply l t e 1, overV_apply l t e 0]
  rfl

/-- The gate of a chosen expert is its weight. -/
theorem gatesV_chosen (t : Fin 64) (r : Fin 4) : gatesV l (ix2 t (Spec.chosen (row l t) r)) = Spec.gate (row l t) r := by
  have i := Spec.chosen_injective (row l t)
  rw [gatesV_apply]
  fin_cases r <;> simp [i.eq_iff]

/-- The gate of any other expert is −1. -/
theorem gatesV_other (t : Fin 64) (e : Fin 32) (h : ∀ r, e ≠ Spec.chosen (row l t) r) :
    gatesV l (ix2 t e) = Ideal.ofBits .f32 0xBF800000#32 := by
  rw [gatesV_apply]
  simp [h]

end Gates

/-- The gates the kernel stores are these, of its logits. -/
theorem gates_eq (X : Vec Ideal S64x2048 .f32) (W : Vec Ideal S2048x32 .f32) :
    k0_pay29 (k0_pay21 (k0_pay3 X W) k0_pay4 (k0_pay13 X W) (k0_pay14 X W) (k0_pay16 X W))
      (k0_pay27 (k0_pay3 X W) k0_pay4 (k0_pay7 X W) (k0_pay8 X W) (k0_pay11 X W) (k0_pay12 X W) (k0_pay13 X W) (k0_pay14 X W)
        (k0_pay15 X W) (k0_pay16 X W))
      (k0_pay28 (k0_pay3 X W) k0_pay4 (k0_pay7 X W) (k0_pay11 X W) (k0_pay13 X W) (k0_pay14 X W) (k0_pay15 X W) (k0_pay16 X W))
      = gatesV (k0_pay3 X W) := rfl

/-- The logit of a token and an expert. -/
theorem logits_apply (X : Vec Ideal S64x2048 .f32) (W : Vec Ideal S2048x32 .f32) (t : Fin 64) (e : Fin 32) :
    k0_pay3 X W (ix2 t e) = ∑ k : Fin 2048, X (ix2 t k) * W (ix2 k e) := by
  pointwise [k0_pay3, k0_pay2]

end Cert.KernelRouter
-- ==== Proof.KernelArray.lean ====
/-
  WHAT THE KERNEL'S RESULT HOLDS.

  The grid's first point stores the quantised tokens and the gates; they stay. So the result is the sum, over the experts in
  turn, of the expert's answer times its gate where the gate is not negative.
-/
module

public import proofs.«01_k».proof.Proof.Gen.KernelIdeal.Value
public import proofs.«01_k».proof.Proof.KernelBlock
public import proofs.«01_k».proof.Proof.KernelRouter
public import Idealize.ShloMosaic.Lib.Pipeline.ValueKit
public import Idealize.ShloMosaic.Lib.Pipeline.ReadBack

@[expose] public section

set_option maxRecDepth 16384

noncomputable section

namespace Cert.KernelArray

open Cert.KernelIdeal Cert.KernelIdeal.Gen Idealize.ShloMosaic Idealize.ShloMosaic.TcCoe Idealize.SL.Sem
open Cert.KernelBlock Cert.KernelRouter

variable (m : (ℓ : Loc nD τ sig) → Buf (Elt Ideal) ℓ)

/-- A grid point after the first adds its expert's share and keeps the rest. -/
theorem point_later (c : Dev nD) (t : Fin cfg0.N) (acc) (h0 : ¬t.val % 32 = 0) :
    Value.stAt0 (F := Ideal) m c t.val t.isLt acc
      = (step acc.2.1 acc.2.2.1 (iblk m c 2 t) (iblk m c 3 t) (iblk m c 4 t) (iblk m c 5 t) acc.2.2.2 acc.1
          (BitVec.ofNat 32 (grid0.coords t 0).val), acc.2.1, acc.2.2.1, acc.2.2.2) := by
  rw [Value.stAt0_B m c t acc h0]
  frame_out
  simp only [read_unread_whole]
  rfl

/-- The first grid point quantises the tokens, finds the gates, and adds its expert's share to zero. -/
theorem point_first (c : Dev nD) (t : Fin cfg0.N) (acc) (h0 : t.val % 32 = 0) :
    Value.stAt0 (F := Ideal) m c t.val t.isLt acc
      = (step (tokenCodes (k0_pay2 (iblk m c 0 t))) (tokenScale (k0_pay2 (iblk m c 0 t))) (iblk m c 2 t) (iblk m c 3 t) (iblk m c 4 t)
          (iblk m c 5 t) (gatesV (k0_pay3 (iblk m c 0 t) (iblk m c 1 t))) (k0_pay53 (F := Ideal)) (BitVec.ofNat 32 (grid0.coords t 0).val),
        tokenCodes (k0_pay2 (iblk m c 0 t)), tokenScale (k0_pay2 (iblk m c 0 t)), gatesV (k0_pay3 (iblk m c 0 t) (iblk m c 1 t))) := by
  rw [Value.stAt0_A m c t acc h0]
  frame_out
  rfl

/-! ## The blocks of the arguments -/

theorem idx : ∀ t : Fin cfg0.N, win0_0.index t = ![0, 0] ∧ win0_1.index t = ![0, 0] ∧ win0_2.index t = ![t.val, 0, 0]
    ∧ win0_3.index t = ![t.val, 0, 0] ∧ win0_4.index t = ![t.val, 0, 0] ∧ win0_5.index t = ![t.val, 0, 0]
    ∧ (grid0.coords t 0).val = t.val :=
  (by decide +kernel : ∀ t : Fin grid0.N, _)

/-- The tokens, the router's weights, and each expert's matrices and scales, as the arguments hold them. -/
def argX (c : Dev nD) (t : Fin 64) (d : Fin 2048) : EReal := m ((c : Thread nD τ).loc main_arg0) (ix3 t 0 d)
@[inherit_doc argX] def argR (c : Dev nD) (d : Fin 2048) (e : Fin 32) : EReal := m ((c : Thread nD τ).loc main_arg1) (ix2 d e)
@[inherit_doc argX] def argW (c : Dev nD) (e : Fin 32) (d f : Fin 2048) : EReal := m ((c : Thread nD τ).loc main_arg2) (ix3 e d f)
@[inherit_doc argX] def argS (c : Dev nD) (e : Fin 32) (f : Fin 2048) : EReal := m ((c : Thread nD τ).loc main_arg3) (ix2 e f)
@[inherit_doc argX] def argW' (c : Dev nD) (e : Fin 32) (f : Fin 1024) (d : Fin 2048) : EReal :=
  m ((c : Thread nD τ).loc main_arg4) (ix3 e f d)
@[inherit_doc argX] def argS' (c : Dev nD) (e : Fin 32) (d : Fin 2048) : EReal := m ((c : Thread nD τ).loc main_arg5) (ix2 e d)

theorem point_lt (t : Fin cfg0.N) : t.val < 32 := lt_of_lt_of_eq t.isLt N_0

theorem blockX (c : Dev nD) (t : Fin cfg0.N) (r : Fin 64) (d : Fin 2048) : k0_pay2 (iblk m c 0 t) (ix2 r d) = argX m c r d := by
  have h : k0_pay2 (iblk m c 0 t) (ix2 r d) = iblk m c 0 t (ix2 r d) := by pointwise [k0_pay2]
  rw [h]; unfold argX
  blk_ext! [iblk, V, idx t]

theorem blockR (c : Dev nD) (t : Fin cfg0.N) (d : Fin 2048) (e : Fin 32) : iblk m c 1 t (ix2 d e) = argR m c d e := by
  unfold argR
  blk_ext! [iblk, V, idx t]

theorem blockW (c : Dev nD) (t : Fin cfg0.N) (d f : Fin 2048) : iblk m c 2 t (ix3 0 d f) = argW m c ⟨t.val, point_lt t⟩ d f := by
  unfold argW
  blk_ext! [iblk, V, idx t]

theorem blockS (c : Dev nD) (t : Fin cfg0.N) (f : Fin 2048) : iblk m c 3 t (ix3 0 0 f) = argS m c ⟨t.val, point_lt t⟩ f := by
  unfold argS
  blk_ext! [iblk, V, idx t]

theorem blockW' (c : Dev nD) (t : Fin cfg0.N) (f : Fin 1024) (d : Fin 2048) :
    iblk m c 4 t (ix3 0 f d) = argW' m c ⟨t.val, point_lt t⟩ f d := by
  unfold argW'
  blk_ext! [iblk, V, idx t]

theorem blockS' (c : Dev nD) (t : Fin cfg0.N) (d : Fin 2048) : iblk m c 5 t (ix3 0 0 d) = argS' m c ⟨t.val, point_lt t⟩ d := by
  unfold argS'
  blk_ext! [iblk, V, idx t]

/-! ## The sum over the experts -/

/-- The tokens' logits are those of `Spec`. -/
theorem logits_row (c : Dev nD) (t₀ : Fin cfg0.N) (t : Fin 64) :
    row (k0_pay3 (iblk m c 0 t₀) (iblk m c 1 t₀)) t = Spec.logits (argX m c t) (argR m c) := by
  funext e
  have h : ∀ d, iblk m c 0 t₀ (ix2 t d) = argX m c t d := fun d => by
    rw [← blockX m c t₀ t d]; pointwise [k0_pay2]
  unfold row Spec.logits
  rw [logits_apply]
  exact Finset.sum_congr rfl fun d _ => by rw [h, blockR]

/-- An expert's answer, as `Spec` states it. -/
def answer (c : Dev nD) (t : Fin 64) (d : Fin 2048) (e : Fin 32) : EReal :=
  Spec.expert (argX m c t) (argW m c e) (argS m c e) (argW' m c e) (argS' m c e) d

/-- What an expert adds, given the gates `g`. -/
def share (c : Dev nD) (g : Fin 32 → EReal) (t : Fin 64) (d : Fin 2048) (e : Fin 32) : EReal :=
  if 0 ≤ g e then answer m c t d e * g e else 0

/-- A grid point adds its expert's share, if codes and scales are those of the tokens. -/
theorem point_adds (c : Dev nD) (p : Fin cfg0.N) (C : Vec Ideal S64x2048 .fp8e4m3) (S : Vec Ideal S64x1 .f32) (g : Vec Ideal S64x32 .f32)
    (y : Vec Ideal S64x2048 .f32) (hC : ∀ t d, C (ix2 t d) = Spec.code (Spec.maxAbs (argX m c t)) (argX m c t d))
    (hS : ∀ t z, S (ix2 t z) = Exponent.scale (Spec.maxAbs (argX m c t))) (t : Fin 64) (d : Fin 2048) :
    step C S (iblk m c 2 p) (iblk m c 3 p) (iblk m c 4 p) (iblk m c 5 p) g y (BitVec.ofNat 32 (grid0.coords p 0).val) (ix2 t d)
      = y (ix2 t d) + share m c (fun e => g (ix2 t e)) t d ⟨p.val, point_lt p⟩ := by
  have hh : ∀ f, k0_pay54 C (iblk m c 2 p) S (iblk m c 3 p) (ix2 t f)
      = Spec.hidden (argX m c t) (argW m c ⟨p.val, point_lt p⟩) (argS m c ⟨p.val, point_lt p⟩) f := by
    intro f
    rw [hidden_apply C S _ _ (argX m c) hC hS]
    simp only [blockW, blockS]
  have hn : (grid0.coords p 0).val = (⟨p.val, point_lt p⟩ : Fin 32).val := (idx p).2.2.2.2.2.2
  rw [step_apply, hn, gate_apply]
  simp only [hh, blockW', blockS']
  rfl

/-- The gates that the first grid point stores. -/
def gates (c : Dev nD) : Vec Ideal S64x32 .f32 := gatesV (k0_pay3 (iblk m c 0 ⟨0, lt_of_lt_of_eq (by decide) N_0.symm⟩) (iblk m c 1 ⟨0, lt_of_lt_of_eq (by decide) N_0.symm⟩))

/-- What the grid has stored after point `j`: the shares of the experts up to `j`, and the tokens' codes, scales and gates. -/
theorem after_point (c : Dev nD) : ∀ (j : ℕ) (h : 0 + j < cfg0.N),
    let A := Pipeline.accAt (fun n h => Value.stAt0 m c n h (Value.junk0 (F := Ideal))) (Value.stAt0 m c) 0 j h
    (∀ t d, A.1 (ix2 t d) = ∑ e ∈ Finset.range (j + 1), if k : e < 32 then share m c (fun e => gates m c (ix2 t e)) t d ⟨e, k⟩ else 0)
      ∧ (∀ t d, A.2.1 (ix2 t d) = Spec.code (Spec.maxAbs (argX m c t)) (argX m c t d))
      ∧ (∀ t z, A.2.2.1 (ix2 t z) = Exponent.scale (Spec.maxAbs (argX m c t)))
      ∧ A.2.2.2 = gates m c
  | 0, h => by
    intro A
    have hA : A = _ := point_first m c ⟨0, h⟩ _ rfl
    have hC : ∀ t d, tokenCodes (k0_pay2 (iblk m c 0 ⟨0, h⟩)) (ix2 t d) = Spec.code (Spec.maxAbs (argX m c t)) (argX m c t d) := by
      intro t d
      rw [tokenCodes_apply]
      simp only [blockX]
    have hS : ∀ t z, tokenScale (k0_pay2 (iblk m c 0 ⟨0, h⟩)) (ix2 t z) = Exponent.scale (Spec.maxAbs (argX m c t)) := by
      intro t z
      rw [tokenScale_apply]
      simp only [blockX]
    rw [hA]
    refine ⟨fun t d => ?_, hC, hS, rfl⟩
    have z : k0_pay53 (F := Ideal) (ix2 t d) = (0 : EReal) := Ideal.ofBits_zero_f32
    dsimp only
    rw [point_adds m c ⟨0, h⟩ _ _ _ _ hC hS, z, zero_add, Finset.sum_range_one, dif_pos (by decide)]
    rfl
  | j + 1, h => by
    intro A
    obtain ⟨i1, i2, i3, i4⟩ := after_point c j (Nat.lt_of_succ_lt h)
    have hj : 0 + (j + 1) < 32 := lt_of_lt_of_eq h N_0
    have hA : A = _ := point_later m c ⟨0 + (j + 1), h⟩ _ (by show ¬ (0 + (j + 1)) % 32 = 0; omega)
    rw [hA]
    refine ⟨fun t d => ?_, i2, i3, i4⟩
    dsimp only
    rw [point_adds m c ⟨0 + (j + 1), h⟩ _ _ _ _ i2 i3, i1, Finset.sum_range_succ _ (j + 1), dif_pos (by omega : j + 1 < 32), i4]
    simp only [Nat.zero_add]

/-- The kernel's result at a token and a column. -/
theorem result_apply (c : Dev nD) (t : Fin 64) (d : Fin 2048) :
    (Value.G6 m c (ix2 t d) : EReal) = (∑ e, share m c (fun e => gates m c (ix2 t e)) t d e : EReal) := by
  have h := (after_point m c 31 (lt_of_lt_of_eq (by decide) N_0.symm)).1 t d
  rw [Finset.sum_range] at h
  rw [Value.G6_last]
  exact h.trans (Finset.sum_congr rfl fun e _ => dif_pos e.isLt)

/-- The gate of the `k`-th chosen expert of a token. -/
theorem gates_chosen (c : Dev nD) (t : Fin 64) (k : Fin 4) :
    gates m c (ix2 t (Spec.chosen (Spec.logits (argX m c t) (argR m c)) k)) = Spec.gate (Spec.logits (argX m c t) (argR m c)) k := by
  have h := gatesV_chosen (k0_pay3 (iblk m c 0 ⟨0, lt_of_lt_of_eq (by decide) N_0.symm⟩) (iblk m c 1 ⟨0, lt_of_lt_of_eq (by decide) N_0.symm⟩)) t k
  rw [logits_row] at h
  exact h

/-- The gate of any other expert. -/
theorem gates_other (c : Dev nD) (t : Fin 64) (e : Fin 32) (h : ∀ k, e ≠ Spec.chosen (Spec.logits (argX m c t) (argR m c)) k) :
    gates m c (ix2 t e) = Ideal.ofBits .f32 0xBF800000#32 := by
  refine gatesV_other _ t e ?_
  rw [logits_row]
  exact h

end Cert.KernelArray
-- ==== Proof.Equation.lean ====
/-
  THE EQUATION between a sum over all experts, masked by the kernel's gates, and the sum over the four chosen ones.

  Where the logits are finite the weights of the chosen experts are positive, so the kernel's test for a gate that is not
  negative lets exactly those through.
-/
module

public import proofs.«01_k».proof.Proof.Spec

@[expose] public section

noncomputable section

namespace Cert.Equation

open Idealize.ShloMosaic

theorem ofBits_neg_one : Ideal.ofBits .f32 0xBF800000#32 = ((-1 : ℝ) : EReal) := by
  simp [Ideal.ofBits, Ideal.ieee, -EReal.coe_mul, -EReal.coe_neg]; norm_num

/-- The weights of finite logits are positive reals. -/
theorem weight_pos (l : Fin 32 → EReal) (hl : ∀ e, ∃ r : ℝ, l e = r) (k : Fin 4) : ∃ r : ℝ, 0 < r ∧ Spec.weight l k = r := by
  obtain ⟨a, ha⟩ := hl (Spec.chosen l k)
  obtain ⟨b, hb⟩ := hl (Spec.chosen l 0)
  refine ⟨Real.exp (a - b), Real.exp_pos _, ?_⟩
  unfold Spec.weight
  rw [ha, hb, ← EReal.coe_sub, Ideal.exp_coe]

/-- So is the gate of a chosen expert. -/
theorem gate_nonneg (l : Fin 32 → EReal) (hl : ∀ e, ∃ r : ℝ, l e = r) (k : Fin 4) : 0 ≤ Spec.gate l k := by
  choose r hr hw using weight_pos l hl
  have hs : ∑ j, Spec.weight l j = ((∑ j, r j : ℝ) : EReal) := by
    simp only [hw, Fin.sum_univ_four, EReal.coe_add]
  have hp : 0 < ∑ j, r j := Finset.sum_pos (fun j _ => hr j) Finset.univ_nonempty
  unfold Spec.gate Ideal.div
  rw [hs, hw, if_neg (by exact_mod_cast hp.ne'), ← EReal.coe_inv, ← EReal.coe_mul]
  exact_mod_cast (mul_pos (hr k) (inv_pos.mpr hp)).le

/-- The masked sum over all experts is the sum over the chosen ones. -/
theorem masked_sum (l : Fin 32 → EReal) (hl : ∀ e, ∃ r : ℝ, l e = r) (y g : Fin 32 → EReal)
    (hg : ∀ k, g (Spec.chosen l k) = Spec.gate l k) (ho : ∀ e, (∀ k, e ≠ Spec.chosen l k) → g e = Ideal.ofBits .f32 0xBF800000#32) :
    ∑ e, (if 0 ≤ g e then y e * g e else 0) = Spec.mix l y := by
  have h : ∀ e ∉ Finset.univ.image (Spec.chosen l), (if 0 ≤ g e then y e * g e else 0) = 0 := by
    intro e he
    have : g e = ((-1 : ℝ) : EReal) := by
      rw [ho e fun k h => he (Finset.mem_image.mpr ⟨k, Finset.mem_univ _, h.symm⟩), ofBits_neg_one]
    rw [this, if_neg]
    intro k
    have : (0 : ℝ) ≤ -1 := by exact_mod_cast k
    norm_num at this
  rw [← Finset.sum_subset (Finset.subset_univ _) fun e _ he => h e he, Finset.sum_image fun i _ j _ h => Spec.chosen_injective l h]
  exact Finset.sum_congr rfl fun k _ => by rw [hg, if_pos (gate_nonneg l hl k)]

/-- Logits of finite rows and weights are finite. -/
theorem logits_real (x : Fin 2048 → EReal) (r : Fin 2048 → Fin 32 → EReal) (hx : ∀ d, ∃ a : ℝ, x d = a)
    (hr : ∀ d e, ∃ a : ℝ, r d e = a) (e : Fin 32) : ∃ a : ℝ, Spec.logits x r e = a := by
  choose a ha using hx
  choose b hb using hr
  refine ⟨∑ k, a k * b k e, ?_⟩
  unfold Spec.logits
  simp only [ha, hb, ← EReal.coe_mul]
  have : ∀ s : Finset (Fin 2048), ∑ k ∈ s, ((a k * b k e : ℝ) : EReal) = ((∑ k ∈ s, a k * b k e : ℝ) : EReal) := by
    intro s
    induction s using Finset.induction_on with
    | empty => simp
    | insert k s h ih => rw [Finset.sum_insert h, Finset.sum_insert h, ih, EReal.coe_add]
  exact this _

end Cert.Equation
-- ==== Proof.ReferenceBlock.lean ====
/-
  WHAT THE REFERENCE'S EXPERTS COMPUTE, read at an expert, a token and a column.

  The reference quantises all tokens, takes them through every expert's first matrix and activation, quantises the hidden rows
  and takes them through every expert's second matrix. Read at one element it is `Spec.expert`.
-/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceBlock

open Cert.ReferenceIdeal Cert.ReferenceIdeal.Gen Idealize.ShloMosaic

variable [Facts]

/-! ## The quantiser's selections -/

/-- The exponent of a row with greatest magnitude `a`, as the reference selects it. -/
def exponentSel (a : EReal) : EReal :=
  Scalar.select (Ideal.cmp .oeq a (Ideal.ofBits .f32 0#32)) (Ideal.ofBits .f32 0#32)
    (Scalar.select
      (IntOp.ori (Ideal.cmp .olt (a * Ideal.ofBits .f32 0x3B124925#32) (Ideal.ofBits .f32 0x00800000#32))
        (Ideal.cmp .oeq (a * Ideal.ofBits .f32 0x3B124925#32) (Ideal.ofBits .f32 0x7F800000#32)))
      (Ideal.ofBits .f32 0#32)
      (Ideal.liftRound Int.floor
        (Ideal.div (Ideal.log (a * Ideal.ofBits .f32 0x3B124925#32)) (Ideal.log (Ideal.ofBits .f32 0x40000000#32)))
        + Ideal.ofBits .f32 0x3F800000#32))

/-- A power of two, as the reference selects it. -/
def ldexpSel (e : EReal) : EReal :=
  Scalar.select (Ideal.cmp .olt e (Ideal.ofBits .f32 0xC2FC0000#32)) (Ideal.ofBits .f32 0#32)
    (Scalar.select (Ideal.cmp .ogt e (Ideal.ofBits .f32 0x42FE0000#32)) (Ideal.ofBits .f32 0x7F800000#32) (FloatOps.exp2 (F := Ideal) (φ := .f32) e))

theorem select_ofBool {α : Type} (p : Prop) [Decidable p] (a b : α) :
    Scalar.select (BitVec.ofBool (decide p)) a b = if p then a else b := by
  by_cases h : p <;> simp [h, Scalar.select]

theorem ofBits_one : Ideal.ofBits .f32 0x3F800000#32 = 1 := by
  simp [Ideal.ofBits, Ideal.ieee, -EReal.coe_mul]; norm_num

theorem ldexpSel_eq (e : EReal) : ldexpSel e = Exponent.ldexpOne e := by
  unfold ldexpSel Exponent.ldexpOne
  show Scalar.select (BitVec.ofBool (decide (e < _))) _ (Scalar.select (BitVec.ofBool (decide (_ < e))) _ _) = _
  rw [select_ofBool, select_ofBool, Ideal.ofBits_zero_f32, Routing.ofBits_inf]
  rfl

theorem exponentSel_eq (a : EReal) : exponentSel a = Exponent.exponent a := by
  unfold exponentSel Exponent.exponent
  rw [Ideal.ofBits_zero_f32, Routing.ofBits_inf, ofBits_one]
  generalize a * Ideal.ofBits .f32 0x3B124925#32 = r
  show Scalar.select (BitVec.ofBool (decide (a = 0))) _
    (Scalar.select (IntOp.ori (BitVec.ofBool (decide (r < _))) (BitVec.ofBool (decide (r = ⊤)))) _ _) = _
  have h (p q : Prop) [Decidable p] [Decidable q] :
      IntOp.ori (BitVec.ofBool (decide p)) (BitVec.ofBool (decide q)) = BitVec.ofBool (decide (p ∨ q)) := by
    by_cases hp : p <;> by_cases hq : q <;> simp [hp, hq, IntOp.ori]
  rw [h, select_ofBool, select_ofBool]

/-! ## The tokens -/

section Token
variable (x : FVec Ideal S64x2048 .f32)

/-- The greatest magnitude of each token. -/
def tokenMaxV : FVec Ideal S64x1 .f32 :=
  shapeCast S64x1 (multiReduction .maximumf [1] S64 (absf (k0_pay1 x)) 0xFF800000#32 reduces_S64x2048_S64 (.inl rfl) rfl) shapeCasts_S64_S64x1

theorem tokenMax_apply (t : Fin 64) (z : Fin 1) : tokenMaxV x (ix2 t z) = Spec.maxAbs fun d => x (ix2 t d) := by
  unfold Spec.maxAbs
  pointwise [tokenMaxV, k0_pay1]
  rfl

/-- Exponents from greatest magnitudes, for all tokens. -/
def exponentV (a : FVec Ideal S64x1 .f32) : FVec Ideal S64x1 .f32 :=
  select (cmpf .oeq a (broadcast S64x1 (Scalar.ofBits .f32 0x00000000#32))) (broadcast S64x1 (Scalar.ofBits .f32 0x00000000#32))
    (select
      (ori (cmpf .olt (mulf a (broadcast S64x1 (Scalar.ofBits .f32 0x3B124925#32))) (broadcast S64x1 (Scalar.ofBits .f32 0x00800000#32)))
        (cmpf .oeq (mulf a (broadcast S64x1 (Scalar.ofBits .f32 0x3B124925#32))) (broadcast S64x1 (Scalar.ofBits .f32 0x7F800000#32))))
      (broadcast S64x1 (Scalar.ofBits .f32 0x00000000#32))
      (addf (floor (divf (log (mulf a (broadcast S64x1 (Scalar.ofBits .f32 0x3B124925#32))))
        (log (broadcast S64x1 (Scalar.ofBits .f32 0x40000000#32))))) (broadcast S64x1 (Scalar.ofBits .f32 0x3F800000#32))))

theorem exponentV_apply (a : FVec Ideal S64x1 .f32) (t : Fin 64) (z : Fin 1) : exponentV a (ix2 t z) = exponentSel (a (ix2 t z)) := rfl

theorem tokenExponent_eq : k0_pay2 x = exponentV (tokenMaxV x) := rfl

/-- The tokens' exponents. -/
theorem tokenExponent_apply (t : Fin 64) (z : Fin 1) :
    k0_pay2 (F := Ideal) x (ix2 t z) = Exponent.exponent (Spec.maxAbs fun d => x (ix2 t d)) := by
  rw [tokenExponent_eq, exponentV_apply, exponentSel_eq, tokenMax_apply]

/-- The quantised tokens. -/
theorem tokenCodes_apply (t : Fin 64) (d : Fin 2048) :
    k0_pay3 (F := Ideal) x (ix2 t d) = Spec.code (Spec.maxAbs fun d => x (ix2 t d)) (x (ix2 t d)) := by
  have h : k0_pay3 (F := Ideal) x (ix2 t d) = min (Ideal.ofBits .f32 1138753536#32) (max (Ideal.ofBits .f32 3286237184#32)
      (x (ix2 t d) * ldexpSel (Ideal.ofBits .f32 0#32 - k0_pay2 (F := Ideal) x (ix2 t 0)))) := by
    unfold ldexpSel k0_pay3
    generalize k0_pay2 (F := Ideal) x = e
    pointwise [k0_pay1]
  rw [h, ldexpSel_eq, tokenExponent_apply, Ideal.ofBits_zero_f32]
  rfl

end Token

/-! ## The experts -/

section Expert
variable (E : FVec Ideal S64x1 .f32) (C : FVec Ideal S64x2048 .f32) (w : Vec Ideal S32x2048x2048 .fp8e4m3) (s : Vec Ideal S32x2048 .f32)
  (w' : Vec Ideal S32x1024x2048 .fp8e4m3) (s' : Vec Ideal S32x2048 .f32)

/-- The hidden rows, from the codes and exponents of the tokens `x`. -/
theorem hidden_apply (x : Fin 64 → Fin 2048 → EReal) (hC : ∀ t d, C (ix2 t d) = Spec.code (Spec.maxAbs (x t)) (x t d))
    (hE : ∀ t z, E (ix2 t z) = Exponent.exponent (Spec.maxAbs (x t))) (e : Fin 32) (t : Fin 64) (f : Fin 1024) :
    k0_pay4 E C w s (ix3 e t f) = Spec.hidden (x t) (fun d f => w (ix3 e d f)) (fun f => s (ix2 e f)) f := by
  unfold Spec.hidden Spec.dot Exponent.scale
  simp only [← hC, ← hE t 0, ← ldexpSel_eq]
  unfold ldexpSel
  pointwise [k0_pay4]

/-- The greatest magnitude of each hidden row. -/
theorem hiddenMax_apply (e : Fin 32) (t : Fin 64) (z : Fin 1) :
    k0_pay5 E C w s (ix3 e t z) = Spec.maxAbs fun f => k0_pay4 E C w s (ix3 e t f) := by
  unfold Spec.maxAbs k0_pay5
  generalize k0_pay4 E C w s = H
  pointwise
  rfl

/-- Exponents from greatest magnitudes, for all hidden rows. -/
def hiddenExponentV (a : FVec Ideal S32x64x1 .f32) : FVec Ideal S32x64x1 .f32 :=
  select (cmpf .oeq a (broadcast S32x64x1 (Scalar.ofBits .f32 0x00000000#32))) (broadcast S32x64x1 (Scalar.ofBits .f32 0x00000000#32))
    (select
      (ori (cmpf .olt (mulf a (broadcast S32x64x1 (Scalar.ofBits .f32 0x3B124925#32)))
          (broadcast S32x64x1 (Scalar.ofBits .f32 0x00800000#32)))
        (cmpf .oeq (mulf a (broadcast S32x64x1 (Scalar.ofBits .f32 0x3B124925#32)))
          (broadcast S32x64x1 (Scalar.ofBits .f32 0x7F800000#32))))
      (broadcast S32x64x1 (Scalar.ofBits .f32 0x00000000#32))
      (addf (floor (divf (log (mulf a (broadcast S32x64x1 (Scalar.ofBits .f32 0x3B124925#32))))
        (log (broadcast S32x64x1 (Scalar.ofBits .f32 0x40000000#32))))) (broadcast S32x64x1 (Scalar.ofBits .f32 0x3F800000#32))))

theorem hiddenExponentV_apply (a : FVec Ideal S32x64x1 .f32) (e : Fin 32) (t : Fin 64) (z : Fin 1) :
    hiddenExponentV a (ix3 e t z) = exponentSel (a (ix3 e t z)) := rfl

/-- Powers of two, for all hidden rows. -/
def ldexpV (e : FVec Ideal S32x64x1 .f32) : FVec Ideal S32x64x1 .f32 :=
  select (cmpf .olt e (broadcast S32x64x1 (Scalar.ofBits .f32 0xC2FC0000#32))) (broadcast S32x64x1 (Scalar.ofBits .f32 0x00000000#32))
    (select (cmpf .ogt e (broadcast S32x64x1 (Scalar.ofBits .f32 0x42FE0000#32))) (broadcast S32x64x1 (Scalar.ofBits .f32 0x7F800000#32))
      (exp2 e))

theorem ldexpV_apply (a : FVec Ideal S32x64x1 .f32) (e : Fin 32) (t : Fin 64) (z : Fin 1) :
    ldexpV a (ix3 e t z) = Exponent.ldexpOne (a (ix3 e t z)) := (ldexpSel_eq _).symm ▸ rfl

/-- What the region stores, from hidden rows `H`, inverse scales `I` and scales `S`. -/
def answerV (H : FVec Ideal S32x64x1024 .f32) (I S : FVec Ideal S32x64x1 .f32) : FVec Ideal S32x64x2048 .f32 :=
  mulf (mulf (matmul (φ₂ := .fp8e4m3) dot_S32x64x1024_S32x1024x2048_S32x64x2048_2_1_1_2_0_0 none
      (truncf .fp8e4m3 (minimumf (broadcast S32x64x1024 (Scalar.ofBits .f32 0x43E00000#32))
        (maximumf (broadcast S32x64x1024 (Scalar.ofBits .f32 0xC3E00000#32))
          (mulf H (broadcastTo S32x64x1024 I broadcasts_S32x64x1_S32x64x1024)))) bitsLt_fp8e4m3_f32)
      w' (constant S32x64x2048 .f32 0x00000000#32)) (broadcastTo S32x64x2048 S broadcasts_S32x64x1_S32x64x2048))
    (broadcastTo S32x64x2048 (shapeCast S32x1x2048 s' shapeCasts_S32x2048_S32x1x2048) broadcasts_S32x1x2048_S32x64x2048)

theorem answerV_apply (H : FVec Ideal S32x64x1024 .f32) (I S : FVec Ideal S32x64x1 .f32) (e : Fin 32) (t : Fin 64) (d : Fin 2048) :
    answerV w' s' H I S (ix3 e t d) = (∑ f, min (Ideal.ofBits .f32 1138753536#32) (max (Ideal.ofBits .f32 3286237184#32)
      (H (ix3 e t f) * I (ix3 e t 0))) * w' (ix3 e f d)) * S (ix3 e t 0) * s' (ix2 e d) := by
  pointwise [answerV]

theorem pay11_eq (H : FVec Ideal S32x64x1024 .f32) (v72 v83 : IVec S32x64x1 1) (v74 v81 v84 : FVec Ideal S32x64x1 .f32) :
    k0_pay11 H v72 v74 v81 v83 v84 w' s'
      = answerV w' s' H
        (ldexpV (subf (broadcast S32x64x1 (Scalar.ofBits .f32 0x00000000#32))
          (select v72 (broadcast S32x64x1 (Scalar.ofBits .f32 0x00000000#32)) (select (ori v83 (cmpf .oeq v74 v84))
            (broadcast S32x64x1 (Scalar.ofBits .f32 0x00000000#32)) v81))))
        (ldexpV (select v72 (broadcast S32x64x1 (Scalar.ofBits .f32 0x00000000#32)) (select (ori v83 (cmpf .oeq v74 v84))
            (broadcast S32x64x1 (Scalar.ofBits .f32 0x00000000#32)) v81))) := rfl

/-- What the region stores, read at an expert, a token and a column. -/
theorem pay11_apply (e : Fin 32) (t : Fin 64) (d : Fin 2048) :
    k0_pay11 (k0_pay4 E C w s) (k0_pay6 E C w s) (k0_pay7 E C w s) (k0_pay8 E C w s) (k0_pay9 E C w s) (k0_pay10 (F := Ideal)) w' s' (ix3 e t d)
      = Spec.dot (fun f => k0_pay4 E C w s (ix3 e t f)) (fun f => w' (ix3 e f d)) (s' (ix2 e d)) := by
  have h : ∀ q : FVec Ideal S32x64x1 .f32, subf (broadcast S32x64x1 (Scalar.ofBits .f32 0x00000000#32)) q (ix3 e t 0)
      = 0 - q (ix3 e t 0) := fun q => by pointwise
  have q : select (k0_pay6 E C w s) (broadcast S32x64x1 (Scalar.ofBits .f32 0x00000000#32))
      (select (ori (k0_pay9 E C w s) (cmpf .oeq (k0_pay7 E C w s) (k0_pay10 (F := Ideal))))
        (broadcast S32x64x1 (Scalar.ofBits .f32 0x00000000#32)) (k0_pay8 E C w s)) = hiddenExponentV (k0_pay5 E C w s) := rfl
  rw [pay11_eq, q, answerV_apply, ldexpV_apply, ldexpV_apply, h, hiddenExponentV_apply, exponentSel_eq, hiddenMax_apply]
  generalize k0_pay4 E C w s = H
  rfl

end Expert

end Cert.ReferenceBlock
-- ==== Proof.ReferenceHost.lean ====
/-
  THE REFERENCE OUTSIDE ITS REGION, read at a token.

  Before the region the reference ranks each token's logits and takes the softmax of the four greatest. After it, it picks the
  four ranked experts' answers out of all answers and sums them, weighted.
-/
module

public import proofs.«01_k».proof.Proof.Gen.ReferenceIdeal.Skeleton
public import proofs.«01_k».proof.Proof.Spec
public import Idealize.ShloMosaic.Lib.IdealHost
public import Idealize.ShloMosaic.Lib.Pointwise
public import Idealize.ShloMosaic.Lib.StableHlo.Predicate

@[expose] public section

set_option maxRecDepth 16384

noncomputable section

namespace Cert.ReferenceHost

open Cert.ReferenceIdeal Cert.ReferenceIdeal.Gen Idealize.ShloMosaic

/-! ## The ranking -/

theorem along_eq {m n : ℕ} (t : Fin m) (k a : Fin n) (h : 1 < (⟨2, ![m, n]⟩ : Shape).rank) :
    (ix2 t k : (⟨2, ![m, n]⟩ : Shape).Idx).along ⟨1, h⟩ a = ix2 t a := by
  funext i
  match i with
  | ⟨0, _⟩ => rfl
  | ⟨1, _⟩ => rfl

/-- Two arrays sorted along their rows by the first, read at a row. -/
theorem sort2_apply {m n : ℕ} {α β : Type} (cmp : α → α → BitVec 1) (x : (⟨2, ![m, n]⟩ : Shape).Idx → α)
    (y : (⟨2, ![m, n]⟩ : Shape).Idx → β) (t : Fin m) (k : Fin n) :
    (Host.sort2 ⟨2, ![m, n]⟩ 1 (fun a b => cmp a.1 b.1) x y).1 (ix2 t k)
        = x (ix2 t (sortedFrom (fun a b => cmp (x (ix2 t a)) (x (ix2 t b)) == 1#1) k))
      ∧ (Host.sort2 ⟨2, ![m, n]⟩ 1 (fun a b => cmp a.1 b.1) x y).2 (ix2 t k)
        = y (ix2 t (sortedFrom (fun a b => cmp (x (ix2 t a)) (x (ix2 t b)) == 1#1) k)) := by
  have hd : 1 < (⟨2, ![m, n]⟩ : Shape).rank := by show 1 < 2; decide
  have h : ∀ a b : Fin n, cmp (x ((ix2 t k : (⟨2, ![m, n]⟩ : Shape).Idx).along ⟨1, hd⟩ a)) (x ((ix2 t k : (⟨2, ![m, n]⟩ : Shape).Idx).along ⟨1, hd⟩ b))
      = cmp (x (ix2 t a)) (x (ix2 t b)) := fun a b => by rw [along_eq, along_eq]
  unfold Host.sort2
  rw [dif_pos hd]
  constructor
  · refine (congrArg x (along_eq t k _ hd)).trans ?_
    show x (ix2 t (sortedFrom (fun a b : Fin n => cmp (x ((ix2 t k : (⟨2, ![m, n]⟩ : Shape).Idx).along ⟨1, hd⟩ a))
      (x ((ix2 t k : (⟨2, ![m, n]⟩ : Shape).Idx).along ⟨1, hd⟩ b)) == 1#1) k)) = _
    simp only [h]
  · refine (congrArg y (along_eq t k _ hd)).trans ?_
    show y (ix2 t (sortedFrom (fun a b : Fin n => cmp (x ((ix2 t k : (⟨2, ![m, n]⟩ : Shape).Idx).along ⟨1, hd⟩ a))
      (x ((ix2 t k : (⟨2, ![m, n]⟩ : Shape).Idx).along ⟨1, hd⟩ b)) == 1#1) k)) = _
    simp only [h]

variable [Facts]

section Ranking
variable (l : FVec Ideal S64x32 .f32)

/-- A token's row of logits. -/
abbrev row (t : Fin 64) : Fin 32 → EReal := fun e => l (ix2 t e)

/-- The four greatest logits of each token. -/
def valuesV : FVec Ideal S64x4 .f32 := (Host.topK S64x4 1 (FloatOps.cmpfTotal .gt) l sliceFits_S64x32_S64x4).1

/-- The experts they belong to. -/
def indicesV : IVec S64x4 32 := (Host.topK S64x4 1 (FloatOps.cmpfTotal .gt) l sliceFits_S64x32_S64x4).2

theorem slice_eq {α : Type} (x : S64x32.Idx → α) (t : Fin 64) (k : Fin 4) :
    extractStridedSlice S64x4 (fun _ => 0) x sliceFits_S64x32_S64x4 (ix2 t k) = x (ix2 t ⟨k.val, by omega⟩) := by
  unfold extractStridedSlice
  refine congrArg x (funext fun i => Fin.ext ?_)
  match i with
  | ⟨0, _⟩ => exact Nat.zero_add _
  | ⟨1, _⟩ => exact Nat.zero_add _

/-- The experts' numbers, which are ranked along with the logits. -/
def numbersV : IVec S64x32 32 := fun i => if h : 1 < S64x32.rank then iotaInDim S64x32 32 ⟨1, h⟩ i else 0#32

theorem numbersV_apply (t : Fin 64) (e : Fin 32) : numbersV (ix2 t e) = BitVec.ofNat 32 e.val := rfl

theorem valuesV_eq : valuesV l = extractStridedSlice S64x4 (fun _ => 0)
    (Host.sort2 S64x32 1 (fun a b => FloatOps.cmpfTotal (F := Ideal) (φ := .f32) .gt a.1 b.1) l numbersV).1 sliceFits_S64x32_S64x4 := rfl

theorem indicesV_eq : indicesV l = extractStridedSlice S64x4 (fun _ => 0)
    (Host.sort2 S64x32 1 (fun a b => FloatOps.cmpfTotal (F := Ideal) (φ := .f32) .gt a.1 b.1) l numbersV).2 sliceFits_S64x32_S64x4 := rfl

theorem valuesV_apply (t : Fin 64) (k : Fin 4) : valuesV l (ix2 t k) = row l t (Spec.chosen (row l t) k) := by
  rw [valuesV_eq, slice_eq]
  unfold Spec.chosen Routing.order
  exact (sort2_apply (FloatOps.cmpfTotal (F := Ideal) (φ := .f32) .gt) l numbersV t ⟨k.val, by omega⟩).1

theorem indicesV_apply (t : Fin 64) (k : Fin 4) : indicesV l (ix2 t k) = BitVec.ofNat 32 (Spec.chosen (row l t) k).val := by
  rw [indicesV_eq, slice_eq, ← numbersV_apply t]
  unfold Spec.chosen Routing.order
  exact (sort2_apply (FloatOps.cmpfTotal (F := Ideal) (φ := .f32) .gt) l numbersV t ⟨k.val, by omega⟩).2

/-- The unnormalised weights of the chosen experts. -/
def weightsV (v : FVec Ideal S64x4 .f32) : FVec Ideal S64x4 .f32 :=
  Host.exp (subf v (broadcastInDim S64x4 ![0, 1] bcast_S64x1_S64x4_0_1 (broadcastInDim S64x1 ![0] bcast_S64_S64x1_0
    (maximumf (broadcastInDim S64 ![] bcast_S_S64 (constant S_ .f32 0xFF800000#32))
      (Host.reduce FloatOps.maximumf v (constant S_ .f32 0xFF800000#32) reducesTo_S64x4_S64_d1 h_S_)))))

/-- The weights of the chosen experts. -/
def gatesV (w : FVec Ideal S64x4 .f32) : FVec Ideal S64x4 .f32 :=
  Host.divf w (broadcastInDim S64x4 ![0, 1] bcast_S64x1_S64x4_0_1 (broadcastInDim S64x1 ![0] bcast_S64_S64x1_0
    (Host.reduceAdd w (constant S_ .f32 0x00000000#32) reducesTo_S64x4_S64_d1 h_S_)))

theorem weightsV_read (v : FVec Ideal S64x4 .f32) (t : Fin 64) (k : Fin 4) : weightsV v (ix2 t k)
    = Ideal.exp (v (ix2 t k) - max (Ideal.ofBits .f32 4286578688#32)
        (Finset.fold max (Ideal.ofBits .f32 4286578688#32) (fun j => v (ix2 t j)) Finset.univ)) := by
  pointwise [weightsV]

theorem gatesV_read (w : FVec Ideal S64x4 .f32) (t : Fin 64) (k : Fin 4) :
    gatesV w (ix2 t k) = Ideal.div (w (ix2 t k)) (∑ j, w (ix2 t j)) := by
  pointwise [gatesV]

theorem gates_apply (t : Fin 64) (k : Fin 4) : gatesV (weightsV (valuesV l)) (ix2 t k) = Spec.gate (row l t) k := by
  have h : ∀ j, weightsV (valuesV l) (ix2 t j) = Spec.weight (row l t) j := fun j => by
    rw [weightsV_read]
    simp only [valuesV_apply]
    unfold Spec.weight
    generalize row l t = l
    congr 2
    rw [Routing.ofBits_neg_inf]
    refine le_antisymm (max_le bot_le ((Finset.fold_max_le _).mpr ⟨bot_le, fun i _ => Routing.order_le l (Fin.mk_le_mk.mpr (Nat.zero_le _))⟩)) ?_
    exact le_max_of_le_right ((Finset.le_fold_max _).mpr (.inr ⟨0, Finset.mem_univ _, le_rfl⟩))
  rw [gatesV_read, h]
  simp only [h]
  rfl

end Ranking

/-! ## The combination -/

section Combine

/-- A negative index counts from the end, as indexing has it: here for the experts' numbers. -/
def wrapExpert (i : IVec S64x4 32) : IVec S64x4 32 :=
  select (cmpi .slt i (broadcastInDim S64x4 ![] bcast_S_S64x4 (constantI S_ 32 0#32)))
    (addi i (broadcastInDim S64x4 ![] bcast_S_S64x4 (constantI S_ 32 32#32))) i

/-- … and here for the tokens' numbers. -/
def wrapToken (i : IVec S64x1 32) : IVec S64x1 32 :=
  select (cmpi .slt i (broadcastInDim S64x1 ![] bcast_S_S64x1 (constantI S_ 32 0#32)))
    (addi i (broadcastInDim S64x1 ![] bcast_S_S64x1 (constantI S_ 32 64#32))) i

/-- The pairs (expert, token) at which the answers are read. -/
def startsV (i : IVec S64x4 32) : IVec S64x4x2 32 :=
  concatenate S64x4x2 2 [⟨S64x4x1, broadcastInDim S64x4x1 ![0, 1] bcast_S64x4_S64x4x1_0_1 (wrapExpert i)⟩,
    ⟨S64x4x1, broadcastInDim S64x4x1 ![0, 1] bcast_S64x4_S64x4x1_0_1 (broadcastInDim S64x4 ![0, 1] bcast_S64x1_S64x4_0_1
      (wrapToken (broadcastInDim S64x1 ![0] bcast_S64_S64x1_0 (iotaInDim S64 32 0))))⟩] concatenates_S64x4x1_S64x4x1_S64x4x2_d2

/-- The answers read at the starts. -/
def pickedV (y : FVec Ideal S32x64x2048 .f32) (p : IVec S64x4x2 32) : FVec Ideal S64x4x2048 .f32 :=
  Host.gather gather_S32x64x2048_S64x4x2_S64x4x2048_2_01_n_n_01_2_112048 y p

/-- The picked answers, weighted and summed. -/
def mixV (z : FVec Ideal S64x4x2048 .f32) (g : FVec Ideal S64x4 .f32) : FVec Ideal S64x2048 .f32 :=
  Host.reduceAdd (mulf z (broadcastInDim S64x4x2048 ![0, 1, 2] bcast_S64x4x1_S64x4x2048_0_1_2
      (broadcastInDim S64x4x1 ![0, 1] bcast_S64x4_S64x4x1_0_1 g)))
    (constant S_ .f32 0x00000000#32) reducesTo_S64x4x2048_S64x2048_d1 h_S_

theorem mixV_apply (z : FVec Ideal S64x4x2048 .f32) (g : FVec Ideal S64x4 .f32) (t : Fin 64) (d : Fin 2048) :
    mixV z g (ix2 t d) = ∑ k, z (ix3 t k d) * g (ix2 t k) := by
  pointwise [mixV]

/-- A small nonnegative number is not negative, so it stays. -/
theorem wrap_small (n k : ℕ) (h : n < 64) :
    Scalar.select (IntOp.cmpi .slt (BitVec.ofNat 32 n) 0#32) (IntOp.addi (BitVec.ofNat 32 n) (BitVec.ofNat 32 k)) (BitVec.ofNat 32 n)
      = BitVec.ofNat 32 n := by
  have : IntOp.cmpi .slt (BitVec.ofNat 32 n) 0#32 = 0#1 := by
    interval_cases n <;> decide +kernel
  rw [this]
  simp [Scalar.select]

theorem starts_expert (i : IVec S64x4 32) (t : Fin 64) (k : Fin 4) (e : Fin 32) (h : i (ix2 t k) = BitVec.ofNat 32 e.val) :
    startsV i (ix3 t k 0) = BitVec.ofNat 32 e.val := by
  have r : startsV i (ix3 t k 0) = Scalar.select (IntOp.cmpi .slt (i (ix2 t k)) 0#32) (IntOp.addi (i (ix2 t k)) (BitVec.ofNat 32 32)) (i (ix2 t k)) := by
    pointwise [startsV, wrapExpert]
  rw [r, h, wrap_small _ _ (by omega)]

theorem starts_token (i : IVec S64x4 32) (t : Fin 64) (k : Fin 4) : startsV i (ix3 t k 1) = BitVec.ofNat 32 t.val := by
  have r : startsV i (ix3 t k 1) = Scalar.select (IntOp.cmpi .slt (BitVec.ofNat 32 t.val) 0#32)
      (IntOp.addi (BitVec.ofNat 32 t.val) (BitVec.ofNat 32 64)) (BitVec.ofNat 32 t.val) := by
    pointwise [startsV, wrapToken]
  rw [r, wrap_small _ _ t.isLt]

/-- The picked answer of a pair (expert, token) is that expert's answer to that token. -/
theorem pickedV_apply (y : FVec Ideal S32x64x2048 .f32) (p : IVec S64x4x2 32) (t : Fin 64) (k : Fin 4) (d : Fin 2048) (e : Fin 32) (u : Fin 64)
    (he : p (ix3 t k 0) = BitVec.ofNat 32 e.val) (hu : p (ix3 t k 1) = BitVec.ofNat 32 u.val) :
    pickedV y p (ix3 t k d) = y (ix3 e u d) := by
  have hs (c : Fin 2) (hc) : gather_S32x64x2048_S64x4x2_S64x4x2048_2_01_n_n_01_2_112048.siIdx (ix3 t k d) ⟨c.val, hc⟩ = ix3 t k c := by
    funext b
    match b with
    | ⟨0, _⟩ => rfl
    | ⟨1, _⟩ => rfl
    | ⟨2, _⟩ => rfl
  have small (n : ℕ) (h : n < 64) : (BitVec.ofNat 32 n).toInt.toNat = n := by
    rw [StableHlo.Predicate.toInt_ofNat_small _ (by omega)]; rfl
  unfold pickedV Host.gather GatherDims.operandIdx
  refine congrArg y (funext fun a => Fin.ext ?_)
  show GatherDims.start _ _ _ _ + GatherDims.batchCoord _ _ _ + GatherDims.offCoord _ _ _ = _
  rw [GatherDims.batchCoord_eq_zero _ _ _ (List.not_mem_nil)]
  match a with
  | ⟨0, _⟩ =>
    have h : min (p (gather_S32x64x2048_S64x4x2_S64x4x2048_2_01_n_n_01_2_112048.siIdx (ix3 t k d) ⟨(0 : Fin 2).val, by decide⟩)).toInt.toNat (32 - 1) = e.val := by
      rw [hs, he, small _ (by omega)]; omega
    exact h
  | ⟨1, _⟩ =>
    have h : min (p (gather_S32x64x2048_S64x4x2_S64x4x2048_2_01_n_n_01_2_112048.siIdx (ix3 t k d) ⟨(1 : Fin 2).val, by decide⟩)).toInt.toNat (64 - 1) = u.val := by
      rw [hs, hu, small _ u.isLt]; omega
    exact h
  | ⟨2, _⟩ => exact Nat.zero_add _

/-- The whole combination: the chosen experts' answers, weighted and summed. -/
theorem combine_apply (l : FVec Ideal S64x32 .f32) (y : FVec Ideal S32x64x2048 .f32) (t : Fin 64) (d : Fin 2048) :
    mixV (pickedV y (startsV (indicesV l))) (gatesV (weightsV (valuesV l))) (ix2 t d) = Spec.mix (row l t) fun e => y (ix3 e t d) := by
  rw [mixV_apply]
  unfold Spec.mix
  refine Finset.sum_congr rfl fun k _ => ?_
  rw [gates_apply, pickedV_apply y _ t k d (Spec.chosen (row l t) k) t (starts_expert _ t k _ (indicesV_apply l t k)) (starts_token _ t k)]

end Combine

end Cert.ReferenceHost
-- ==== Proof.ReferenceArray.lean ====
/-
  WHAT THE REFERENCE'S RESULT HOLDS.

  The region leaves every expert's answer to every token. The operations after it pick each token's four ranked experts'
  answers and sum them, weighted. Read at a token and a column it is `Spec.result`.
-/
module

public import proofs.«01_k».proof.Proof.Gen.ReferenceIdeal.Frame
public import proofs.«01_k».proof.Proof.ReferenceBlock
public import proofs.«01_k».proof.Proof.ReferenceHost
public import Idealize.ShloMosaic.Lib.Pipeline.ValueKit
public import Idealize.ShloMosaic.Lib.Pipeline.ReadBack
public import Idealize.ShloMosaic.Lib.Claim
public import Idealize.ShloMosaic.Lib.StableHlo.RunRead

@[expose] public section

set_option maxRecDepth 16384

noncomputable section

namespace Cert.ReferenceArray

open Cert.ReferenceIdeal Cert.ReferenceIdeal.Gen Idealize.ShloMosaic Idealize.ShloMosaic.TcCoe Idealize.SL.Sem
open Cert.ReferenceHost

variable (m : (ℓ : Loc nD τ sig) → Buf (Elt Ideal) ℓ)

/-! ## The arguments -/

/-- The tokens, the router's weights, and each expert's matrices and scales, as the arguments hold them. -/
def argX (c : Dev nD) (t : Fin 64) (d : Fin 2048) : EReal := m ((c : Thread nD τ).loc main_arg0) (ix3 t 0 d)
@[inherit_doc argX] def argR (c : Dev nD) (d : Fin 2048) (e : Fin 32) : EReal := m ((c : Thread nD τ).loc main_arg1) (ix2 d e)
@[inherit_doc argX] def argW (c : Dev nD) (e : Fin 32) (d f : Fin 2048) : EReal := m ((c : Thread nD τ).loc main_arg2) (ix3 e d f)
@[inherit_doc argX] def argS (c : Dev nD) (e : Fin 32) (f : Fin 2048) : EReal := m ((c : Thread nD τ).loc main_arg3) (ix2 e f)
@[inherit_doc argX] def argW' (c : Dev nD) (e : Fin 32) (f : Fin 1024) (d : Fin 2048) : EReal :=
  m ((c : Thread nD τ).loc main_arg4) (ix3 e f d)
@[inherit_doc argX] def argS' (c : Dev nD) (e : Fin 32) (d : Fin 2048) : EReal := m ((c : Thread nD τ).loc main_arg5) (ix2 e d)

/-! ## The region -/

theorem idx : ∀ t : Fin cfg0.N, win0_0.index t = ![0, 0] ∧ win0_1.index t = ![0, 0, 0] ∧ win0_2.index t = ![0, 0]
    ∧ win0_3.index t = ![0, 0, 0] ∧ win0_4.index t = ![0, 0] ∧ win0_5.index t = ![0, 0, 0] :=
  (by decide +kernel : ∀ t : Fin grid0.N, _)

theorem blockX (c : Dev nD) (t : Fin cfg0.N) (r : Fin 64) (d : Fin 2048) : iblk m c 0 t (ix2 r d) = argX m c r d := by
  unfold argX
  blk_simp [iblk, idx t]
  show StableHlo.after [hostOps0].flatten _ (Proc.devRef .tc main_v0) _ = _
  rw [List.flatten_singleton]
  unfold hostOps0
  after_reads_simp
  pointwise
  blk_ext [idx t]

theorem blockW (c : Dev nD) (t : Fin cfg0.N) : iblk m c 1 t = m ((c : Thread nD τ).loc main_arg2) := by
  blk_ext! [iblk, idx t]

theorem blockS (c : Dev nD) (t : Fin cfg0.N) : iblk m c 2 t = m ((c : Thread nD τ).loc main_arg3) := by
  blk_ext! [iblk, idx t]

theorem blockW' (c : Dev nD) (t : Fin cfg0.N) : iblk m c 3 t = m ((c : Thread nD τ).loc main_arg4) := by
  blk_ext! [iblk, idx t]

theorem blockS' (c : Dev nD) (t : Fin cfg0.N) : iblk m c 4 t = m ((c : Thread nD τ).loc main_arg5) := by
  blk_ext! [iblk, idx t]

/-- What the region's body stores. -/
def answersV (x : Vec Ideal S64x2048 .f32) (w : Vec Ideal S32x2048x2048 .fp8e4m3) (s : Vec Ideal S32x2048 .f32)
    (w' : Vec Ideal S32x1024x2048 .fp8e4m3) (s' : Vec Ideal S32x2048 .f32) : FVec Ideal S32x64x2048 .f32 :=
  k0_pay11 (k0_pay4 (k0_pay2 x) (k0_pay3 x) w s) (k0_pay6 (k0_pay2 x) (k0_pay3 x) w s) (k0_pay7 (k0_pay2 x) (k0_pay3 x) w s)
    (k0_pay8 (k0_pay2 x) (k0_pay3 x) w s) (k0_pay9 (k0_pay2 x) (k0_pay3 x) w s) (k0_pay10 (F := Ideal)) w' s'

theorem answersV_apply (x : Vec Ideal S64x2048 .f32) (w : Vec Ideal S32x2048x2048 .fp8e4m3) (s : Vec Ideal S32x2048 .f32)
    (w' : Vec Ideal S32x1024x2048 .fp8e4m3) (s' : Vec Ideal S32x2048 .f32) (e : Fin 32) (t : Fin 64) (d : Fin 2048) :
    answersV x w s w' s' (ix3 e t d) = Spec.expert (fun d => x (ix2 t d)) (fun d f => w (ix3 e d f)) (fun f => s (ix2 e f))
      (fun f d => w' (ix3 e f d)) (fun d => s' (ix2 e d)) d := by
  unfold answersV Spec.expert
  rw [ReferenceBlock.pay11_apply]
  have h : ∀ f, k0_pay4 (k0_pay2 x) (k0_pay3 x) w s (ix3 e t f) = _ := fun f =>
    ReferenceBlock.hidden_apply (k0_pay2 x) (k0_pay3 x) w s (fun t d => x (ix2 t d)) (ReferenceBlock.tokenCodes_apply x)
      (ReferenceBlock.tokenExponent_apply x) e t f
  simp only [h]

theorem out_eq (x : Vec Ideal S64x2048 .f32) (w : Vec Ideal S32x2048x2048 .fp8e4m3) (s : Vec Ideal S32x2048 .f32)
    (w' : Vec Ideal S32x1024x2048 .fp8e4m3) (s' : Vec Ideal S32x2048 .f32) : out0_5 x w s w' s' = answersV x w s w' s' := by
  unfold_out out0_5
  unfold r0_0 r0_1 r0_2 r0_3 r0_4 answersV
  rw [View.canon_cons_unit_lit _ _ _ (by decide), View.ld_unit_lit _ x (by decide), View.ld_unit_lit _ w (by decide),
    View.ld_unit_lit _ s (by decide), View.ld_unit_lit _ w' (by decide), View.ld_unit_lit _ s' (by decide)]

/-- The answers that the region leaves. -/
theorem region (c : Dev nD) : (dats m 0 c).arrAt 5 cfg0.N
    = answersV (iblk m c 0 t0_0) (iblk m c 1 t0_0) (iblk m c 2 t0_0) (iblk m c 3 t0_0) (iblk m c 4 t0_0) := by
  refine (dats m 0 c).arrAt_eq_of_after_last 5 t0_0 (by decide +kernel) _ fun j => ?_
  blk_simp
  rw [after0_5, out_eq]

/-! ## The operations around the region -/

/-- Each token's logits. -/
def logitsV (c : Dev nD) : FVec Ideal S64x32 .f32 :=
  Host.dotGeneral (φ₁ := .f32) (φ₂ := .f32) dot_S64x2048_S2048x32_S64x32_1_0_0_1_n_n none
    (shapeCast S64x2048 (m ((c : Thread nD τ).loc main_arg0)) shapeCasts_S64x1x2048_S64x2048) (m ((c : Thread nD τ).loc main_arg1))

theorem logitsV_apply (c : Dev nD) (t : Fin 64) : row (logitsV m c) t = Spec.logits (argX m c t) (argR m c) := by
  funext e
  unfold row Spec.logits argX argR logitsV
  pointwise

/-- The experts that the operations before the region choose. -/
theorem V0_indices (c : Dev nD) : V0 m c (Proc.devRef .tc main_indices) = indicesV (logitsV m c) := by
  show StableHlo.after [hostOps0].flatten _ _ = _
  rw [List.flatten_singleton]
  unfold hostOps0
  after_reads_simp
  show indicesV _ = indicesV _
  exact congrArg indicesV rfl

/-- Their weights. -/
theorem V0_gates (c : Dev nD) : V0 m c (Proc.devRef .tc main_v12) = gatesV (weightsV (valuesV (logitsV m c))) := by
  show StableHlo.after [hostOps0].flatten _ _ = _
  rw [List.flatten_singleton]
  unfold hostOps0
  after_reads_simp
  show gatesV (weightsV (valuesV _)) = _
  exact congrArg (fun l => gatesV (weightsV (valuesV l))) rfl

/-- The operations after the region, from any contents of the buffers. -/
theorem tail_eq (W : Valuation τ sig (Elt Ideal)) : StableHlo.after hostOps1 W (Proc.devRef .tc main_v34)
    = mixV (pickedV (W (Proc.devRef .tc main_v13)) (startsV (W (Proc.devRef .tc main_indices)))) (W (Proc.devRef .tc main_v12)) := by
  unfold hostOps1
  after_reads_simp
  rfl

/-- The reference's result. -/
def resultV (c : Dev nD) : FVec Ideal S64x2048 .f32 :=
  mixV (pickedV ((dats m 0 c).arrAt 5 cfg0.N) (startsV (indicesV (logitsV m c)))) (gatesV (weightsV (valuesV (logitsV m c))))

theorem tail (c : Dev nD) : Pipeline.afterTail₀ cfgs (dats m) 0 (V0 m) [hostOps1] c main_v34 = resultV m c := by
  unfold Pipeline.afterTail₀ resultV
  rw [List.flatten_singleton, tail_eq,
    Pipeline.withArrays_of_ne _ c (V0 m c) _ main_indices (by exact (by decide : ∀ w, Pipeline.arrRef spec0 w ≠ main_indices)),
    Pipeline.withArrays_of_ne _ c (V0 m c) _ main_v12 (by exact (by decide : ∀ w, Pipeline.arrRef spec0 w ≠ main_v12)),
    V0_indices, V0_gates]
  congr 2
  exact Pipeline.withArrays_arr _ (by exact (by decide : Function.Injective (Pipeline.arrRef spec0))) c (V0 m c) _ 5

theorem result_apply (c : Dev nD) (t : Fin 64) (d : Fin 2048) : resultV m c (ix2 t d)
    = Spec.result (argX m c) (argR m c) (argW m c) (argS m c) (argW' m c) (argS' m c) t d := by
  unfold resultV Spec.result
  rw [combine_apply, logitsV_apply, region]
  congr 1
  funext e
  rw [answersV_apply, blockW, blockS, blockW', blockS']
  simp only [blockX]
  rfl

/-- Every execution of the reference ends with `resultV` in its result. -/
theorem run (ρ) : θ_run defs (onTc (τ := τ) (main (F := Ideal))) (s₀ m ρ) fun r => ∀ c : Dev nD,
    r.2.mem ((c : Thread nD τ).loc main_v34) = resultV m c := by
  refine θ_run_mono (run_main m ρ) fun r h c => ?_
  exact ((h c).2 main_v34 (Pipeline.mem_restRefs_of main_v34 (by decide) (by decide))).trans (tail m c)

end Cert.ReferenceArray
-- ==== Proof.Precondition.lean ====
/-
  THE PRECONDITION, decoded: the tokens and the router's weights are real numbers.
-/
module

public import proofs.«01_k».proof.Pre_finite_router
public import Idealize.ShloMosaic.Lib.ReduceAll
public import Idealize.ShloMosaic.Lib.IdealHost
public import Idealize.ShloMosaic.Lib.Pointwise
public import Idealize.ShloMosaic.Lib.StableHlo.Predicate

@[expose] public section

noncomputable section

namespace Cert.Precondition

open Cert.Pre_finite_router Idealize.ShloMosaic

/-- The side conditions of the precondition's operations hold. -/
instance facts : Facts where
  bcast_S_S64x1x2048 := by decide
  reducesTo_S64x1x2048_S_d0_1_2 := by decide
  h_S_ := by decide
  bcast_S_S2048x32 := by decide
  reducesTo_S2048x32_S_d0_1 := by decide

theorem ofBits_inf : Ideal.ofBits .f32 0x7F800000#32 = (⊤ : EReal) := by
  simp [Ideal.ofBits, Ideal.ieee]

/-- A number whose magnitude is below infinity is real. -/
theorem real_of_lt {a : EReal} (h : max a (-a) < ⊤) : ∃ r : ℝ, a = r := by
  have h1 := lt_of_le_of_lt (le_max_left a (-a)) h
  have h2 := lt_of_le_of_lt (le_max_right a (-a)) h
  refine ⟨a.toReal, (EReal.coe_toReal h1.ne ?_).symm⟩
  rintro rfl
  exact absurd h2 (by simp)

theorem real_of_bit {a : EReal} (h : FloatOps.cmpf (F := Ideal) (φ := .f32) .olt (max a (-a)) (Ideal.ofBits .f32 0x7F800000#32) = 1#1) :
    ∃ r : ℝ, a = r := by
  rw [ofBits_inf] at h
  refine real_of_lt ?_
  by_contra hn
  have : FloatOps.cmpf (F := Ideal) (φ := .f32) .olt (max a (-a)) ⊤ = BitVec.ofBool (decide (max a (-a) < ⊤)) := rfl
  rw [this, decide_eq_false hn] at h
  exact absurd h (by decide)

instance : Subsingleton S_.Idx := ⟨fun a b => funext fun i => i.elim0⟩

/-- Every element of the two arrays that the precondition looks at is real. -/
theorem real (x : FVec Ideal S64x1x2048 .f32) (r : FVec Ideal S2048x32 .f32) (w s w' s')
    (h : fn (F := Ideal) x r w s w' s' = fun _ => 1#1) :
    (∀ t z d, ∃ a : ℝ, x (ix3 t z d) = a) ∧ ∀ d e, ∃ a : ℝ, r (ix2 d e) = a := by
  have h0 : IntOp.andi _ _ = 1#1 := congrFun h (Shape.Idx.first Facts.h_S_)
  obtain ⟨ha, hb⟩ := IntOp.andi_eq_one.mp h0
  constructor
  · intro t z d
    exact real_of_bit (Host.reduce_andi_all _ _ _ _ _ ha (ix3 t z d))
  · intro d e
    exact real_of_bit (Host.reduce_andi_all _ _ _ _ _ hb (ix2 d e))

end Cert.Precondition
-- ==== Proof.Agreement.lean ====
/-
  THE TWO RESULTS AGREE: the kernel's result is the reference's, for real tokens and real router weights.

  Both are `Spec.result` of the arguments. The kernel sums over all experts, each with its gate or with nothing. The
  reference sums over each token's four ranked experts.
-/
module

public import proofs.«01_k».proof.Defs
public import proofs.«01_k».proof.Proof.KernelArray
public import proofs.«01_k».proof.Proof.Equation
public import proofs.«01_k».proof.Proof.ReferenceArray
public import proofs.«01_k».proof.Proof.Precondition

@[expose] public section

noncomputable section

namespace Cert.Agreement

open Idealize.ShloMosaic Idealize.ShloMosaic.TcCoe Idealize.SL.Sem

/-- The kernel's result, read at a token and a column. -/
theorem kernel_apply (m : (ℓ : Loc KernelIdeal.nD KernelIdeal.τ KernelIdeal.sig) → Buf (Elt Ideal) ℓ) (c : Dev KernelIdeal.nD)
    (hx : ∀ t d, ∃ a : ℝ, KernelArray.argX m c t d = a) (hr : ∀ d e, ∃ a : ℝ, KernelArray.argR m c d e = a) (t : Fin 64) (d : Fin 2048) :
    (KernelIdeal.Value.G6 m c (ix2 t d) : EReal) = Spec.result (KernelArray.argX m c) (KernelArray.argR m c) (KernelArray.argW m c)
      (KernelArray.argS m c) (KernelArray.argW' m c) (KernelArray.argS' m c) t d :=
  (KernelArray.result_apply m c t d).trans (Equation.masked_sum _ (Equation.logits_real _ _ (hx t) hr) (KernelArray.answer m c t d)
    (fun e => KernelArray.gates m c (ix2 t e)) (KernelArray.gates_chosen m c t) (KernelArray.gates_other m c t))

/-- The kernel and the reference store the same result. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hpre : Pre_KernelIdeal_finite_router m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    ReferenceArray.resultV m' c = KernelIdeal.Value.G6 m c := by
  obtain ⟨hx, hr⟩ := Precondition.real _ _ _ _ _ _ (hpre c)
  have e0 : ReferenceArray.argX m' c = KernelArray.argX m c := funext fun t => funext fun d => congrFun h0 (ix3 t 0 d)
  have e1 : ReferenceArray.argR m' c = KernelArray.argR m c := funext fun d => funext fun e => congrFun h1 (ix2 d e)
  have e2 : ReferenceArray.argW m' c = KernelArray.argW m c := funext fun e => funext fun d => funext fun f => congrFun h2 (ix3 e d f)
  have e3 : ReferenceArray.argS m' c = KernelArray.argS m c := funext fun e => funext fun f => congrFun h3 (ix2 e f)
  have e4 : ReferenceArray.argW' m' c = KernelArray.argW' m c := funext fun e => funext fun f => funext fun d => congrFun h4 (ix3 e f d)
  have e5 : ReferenceArray.argS' m' c = KernelArray.argS' m c := funext fun e => funext fun d => congrFun h5 (ix2 e d)
  have h : ∀ t d, ReferenceArray.resultV m' c (ix2 t d) = KernelIdeal.Value.G6 m c (ix2 t d) := fun t d => by
    rw [ReferenceArray.result_apply, e0, e1, e2, e3, e4, e5]
    exact (kernel_apply m c (fun t d => hx t 0 d) hr t d).symm
  funext i
  have hi : i = ix2 (i 0) (i 1) := by
    funext a
    match a with
    | ⟨0, _⟩ => rfl
    | ⟨1, _⟩ => rfl
  rw [hi]
  exact h (i 0) (i 1)

/-- The claim that kernel and reference compute the same. -/
theorem algebraic : algebraic_KernelIdeal_ReferenceIdeal_pre_finite_router := by
  intro m g m' g' hpre ha
  refine ⟨fun c => KernelIdeal.Value.G6 m c, KernelIdeal.Value.run m g, ?_⟩
  refine θ_run_mono (θ_run_and (ReferenceArray.run m' g') (ReferenceIdeal.Gen.unchanged m' g')) fun r h c => ?_
  obtain ⟨h0, h1, h2, h3, h4, h5⟩ := ha c
  exact ⟨(h.1 c).trans (result_eq m m' c hpre h0 h1 h2 h3 h4 h5), h.2 c⟩

end Cert.Agreement
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Precondition.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, Cert.Agreement.algebraic⟩

end Cert.Proof

end
